-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x3072 : Shape := ⟨3, ![2, 8192, 3072]⟩
abbrev S2x8192x1 : Shape := ⟨3, ![2, 8192, 1]⟩
abbrev S3072x2048 : Shape := ⟨2, ![3072, 2048]⟩
abbrev S2048 : Shape := ⟨1, ![2048]⟩
abbrev S16384x3072 : Shape := ⟨2, ![16384, 3072]⟩
abbrev S16384x1 : Shape := ⟨2, ![16384, 1]⟩
abbrev S1x2048 : Shape := ⟨2, ![1, 2048]⟩
abbrev S16384x2048 : Shape := ⟨2, ![16384, 2048]⟩
abbrev S512x3072 : Shape := ⟨2, ![512, 3072]⟩
abbrev S512x1 : Shape := ⟨2, ![512, 1]⟩
abbrev S512x2048 : Shape := ⟨2, ![512, 2048]⟩
abbrev S512x128 : Shape := ⟨2, ![512, 128]⟩
abbrev S3072x256 : Shape := ⟨2, ![3072, 256]⟩
abbrev S512x256 : Shape := ⟨2, ![512, 256]⟩
abbrev S1x256 : Shape := ⟨2, ![1, 256]⟩
abbrev S512 : Shape := ⟨1, ![512]⟩

abbrev nBuf : Space → Nat
  | .hbm => 11
  | .vmem => 12
  | .smem => 0
  | _ => 0

abbrev bufTy : (tb : Table) → Fin (tcTables nBuf tb) → BufTy
  | .hbm, ⟨0, _⟩ => ⟨S2x8192x3072, .fp8e4m3⟩
  | .hbm, ⟨1, _⟩ => ⟨S2x8192x1, .f32⟩
  | .hbm, ⟨2, _⟩ => ⟨S3072x2048, .fp8e4m3⟩
  | .hbm, ⟨3, _⟩ => ⟨S2048, .f32⟩
  | .hbm, ⟨4, _⟩ => ⟨S2048, .bf16⟩
  | .hbm, ⟨5, _⟩ => ⟨S16384x3072, .fp8e4m3⟩
  | .hbm, ⟨6, _⟩ => ⟨S16384x1, .f32⟩
  | .hbm, ⟨7, _⟩ => ⟨S1x2048, .f32⟩
  | .hbm, ⟨8, _⟩ => ⟨S1x2048, .bf16⟩
  | .hbm, ⟨9, _⟩ => ⟨S16384x2048, .fp8e4m3⟩
  | .hbm, ⟨10, _⟩ => ⟨S16384x1, .f32⟩
  | .local _ .vmem, ⟨0, _⟩ => ⟨S512x3072, .fp8e4m3⟩
  | .local _ .vmem, ⟨1, _⟩ => ⟨S512x3072, .fp8e4m3⟩
  | .local _ .vmem, ⟨2, _⟩ => ⟨S512x1, .f32⟩
  | .local _ .vmem, ⟨3, _⟩ => ⟨S512x1, .f32⟩
  | .local _ .vmem, ⟨4, _⟩ => ⟨S3072x2048, .fp8e4m3⟩
  | .local _ .vmem, ⟨5, _⟩ => ⟨S1x2048, .f32⟩
  | .local _ .vmem, ⟨6, _⟩ => ⟨S1x2048, .bf16⟩
  | .local _ .vmem, ⟨7, _⟩ => ⟨S512x2048, .fp8e4m3⟩
  | .local _ .vmem, ⟨8, _⟩ => ⟨S512x2048, .fp8e4m3⟩
  | .local _ .vmem, ⟨9, _⟩ => ⟨S512x1, .f32⟩
  | .local _ .vmem, ⟨10, _⟩ => ⟨S512x1, .f32⟩
  | .local _ .vmem, ⟨11, _⟩ => ⟨S512x2048, .f32⟩
  | _, _ => ⟨S2x8192x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x8192x3072 : Shape := ⟨3, ![2, 8192, 3072]⟩
abbrev S2x8192x1 : Shape := ⟨3, ![2, 8192, 1]⟩
abbrev S3072x2048 : Shape := ⟨2, ![3072, 2048]⟩
abbrev S2048 : Shape := ⟨1, ![2048]⟩
abbrev S16384x3072 : Shape := ⟨2, ![16384, 3072]⟩
abbrev S16384x1 : Shape := ⟨2, ![16384, 1]⟩
abbrev S1x2048 : Shape := ⟨2, ![1, 2048]⟩
abbrev S16384x2048 : Shape := ⟨2, ![16384, 2048]⟩
abbrev S16384 : Shape := ⟨1, ![16384]⟩
abbrev S1x252 : Shape := ⟨2, ![1, 252]⟩
abbrev S16384x252 : Shape := ⟨2, ![16384, 252]⟩

abbrev nBuf : Space → Nat
  | .hbm => 11
  | .vmem => 7
  | .smem => 0
  | _ => 0

abbrev bufTy : (tb : Table) → Fin (tcTables nBuf tb) → BufTy
  | .hbm, ⟨0, _⟩ => ⟨S2x8192x3072, .fp8e4m3⟩
  | .hbm, ⟨1, _⟩ => ⟨S2x8192x1, .f32⟩
  | .hbm, ⟨2, _⟩ => ⟨S3072x2048, .fp8e4m3⟩
  | .hbm, ⟨3, _⟩ => ⟨S2048, .f32⟩
  | .hbm, ⟨4, _⟩ => ⟨S2048, .bf16⟩
  | .hbm, ⟨5, _⟩ => ⟨S16384x3072, .fp8e4m3⟩
  | .hbm, ⟨6, _⟩ => ⟨S16384x1, .f32⟩
  | .hbm, ⟨7, _⟩ => ⟨S1x2048, .f32⟩
  | .hbm, ⟨8, _⟩ => ⟨S1x2048, .bf16⟩
  | .hbm, ⟨9, _⟩ => ⟨S16384x2048, .fp8e4m3⟩
  | .hbm, ⟨10, _⟩ => ⟨S16384x1, .f32⟩
  | .local _ .vmem, ⟨0, _⟩ => ⟨S16384x3072, .fp8e4m3⟩
  | .local _ .vmem, ⟨1, _⟩ => ⟨S16384x1, .f32⟩
  | .local _ .vmem, ⟨2, _⟩ => ⟨S3072x2048, .fp8e4m3⟩
  | .local _ .vmem, ⟨3, _⟩ => ⟨S1x2048, .f32⟩
  | .local _ .vmem, ⟨4, _⟩ => ⟨S1x2048, .bf16⟩
  | .local _ .vmem, ⟨5, _⟩ => ⟨S16384x2048, .fp8e4m3⟩
  | .local _ .vmem, ⟨6, _⟩ => ⟨S16384x1, .f32⟩
  | _, _ => ⟨S2x8192x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/-
  The exponent of a row scale, as a number: the kernel finds it by a binary search over exponent fields of f32 words, the
  reference as the least integer `k` in `-125 … 126` with `2 ^ k > v`. For every `v ≥ 0` (the infinity included) the two give the
  same scale `2 ^ e` and the same inverse `2 ^ -e`. Nothing here mentions an array: one extended real `v` throughout.
-/
module

public import Idealize.ShloMosaic.PureOps.Ideal.Laws
public import Idealize.ShloMosaic.Lib.Tactic
public import Mathlib.Tactic.NormNum
public import Mathlib.Tactic.Ring

@[expose] public section

noncomputable section

namespace Cert.Scale

open Idealize.ShloMosaic

/-! ## The kernel's exponent -/

/-- The value of the f32 word whose exponent field is `c` and whose other bits are zero. -/
def word (c : BitVec 32) : EReal := Ideal.ofBits .f32 (IntOp.shli .vector c 23#32)

/-- One step of the search: add `b` to the field `c` if the power of two at `c + b` is not above `v`. -/
def stp (v : EReal) (b c : BitVec 32) : BitVec 32 := Scalar.select (Ideal.cmp .ole (word (IntOp.addi c b)) v) (IntOp.addi c b) c

/-- The search: eight steps from the field zero. -/
def field (v : EReal) : BitVec 32 :=
  stp v 1#32 (stp v 2#32 (stp v 4#32 (stp v 8#32 (stp v 16#32 (stp v 32#32 (stp v 64#32 (stp v 128#32 0#32)))))))

/-- The field the kernel goes on with: at most 252, and 255 where `v - v` is above zero (which it never is here). -/
def capped (v : EReal) (f : BitVec 32) : BitVec 32 :=
  Scalar.select (Ideal.cmp .ole (v - v) (Ideal.ofBits .f32 0x00000000#32)) (IntOp.minsi f 252#32) 255#32

/-- The exponent of a field: zero at the field zero, the capped field less 126 elsewhere. -/
def ofField (v : EReal) (f : BitVec 32) : BitVec 32 :=
  Scalar.select (IntOp.cmpi .eq (capped v f) 0#32) 0#32 (IntOp.subi (capped v f) 126#32)

/-- The kernel's exponent. -/
def expo (v : EReal) : BitVec 32 := ofField v (field v)

/-- The kernel's scale and its inverse: the words with the exponent fields `127 + e` and `127 - e`. -/
def kscale (v : EReal) : EReal := word (IntOp.addi 127#32 (expo v))

def kinv (v : EReal) : EReal := word (IntOp.subi 127#32 (expo v))

/-! ## The words that are powers of two -/

/-- The word at the field `n`, for a natural number `n`. -/
def T (n : ℕ) : EReal := word (BitVec.ofNat 32 n)

theorem bits (n : Fin 256) : let b : BitVec 32 := IntOp.shli .vector (BitVec.ofNat 32 n) 23#32
    b.extractLsb' 31 1 = 0#1 ∧ (b.extractLsb' 23 8).toNat = n ∧ (b.extractLsb' 0 23).toNat = 0 := by
  revert n; decide +kernel

/-- The word at the field zero is zero. -/
theorem T_zero : T 0 = 0 := by
  show Ideal.ofBits .f32 0x00000000#32 = 0
  exact Ideal.ofBits_zero_f32

/-- The word at the field `n` from 1 to 254 is `2 ^ (n - 127)`. -/
theorem T_eq {n : ℕ} (h1 : 1 ≤ n) (h2 : n ≤ 254) : T n = (((2 : ℝ) ^ ((n : ℤ) - 127) : ℝ) : EReal) := by
  obtain ⟨hs, he, hf⟩ := bits ⟨n, by omega⟩
  simp only at hs he hf
  show Ideal.ieee 8 23 _ = _
  unfold Ideal.ieee
  simp only [show 8 + 23 = 31 from rfl, hs, he, hf]
  rw [if_neg (by omega), if_neg (by omega)]
  refine congrArg _ ?_
  have : ((n : ℤ) - 127) = 23 + ((n : ℤ) - (2 ^ (8 - 1) - 1) - ((23 : ℕ) : ℤ)) := by norm_num
  rw [this, zpow_add₀ (by norm_num)]
  norm_num

/-- The word at the field 255 is the infinity. -/
theorem T_top : T 255 = ⊤ := by
  obtain ⟨hs, he, hf⟩ := bits ⟨255, by omega⟩
  simp only at hs he hf
  show Ideal.ieee 8 23 (IntOp.shli .vector (BitVec.ofNat 32 255) 23#32) = _
  unfold Ideal.ieee
  simp only [show 8 + 23 = 31 from rfl, hs, he, hf]
  norm_num

theorem add_ofNat (a b : ℕ) : IntOp.addi (BitVec.ofNat 32 a) (BitVec.ofNat 32 b) = BitVec.ofNat 32 (a + b) := by
  show BitVec.ofNat 32 a + BitVec.ofNat 32 b = _
  rw [BitVec.ofNat_add]

theorem cmp_ole (x y : EReal) : Ideal.cmp .ole x y = 1 ↔ x ≤ y := by
  simp [Ideal.cmp, BitVec.ofBool]
  by_cases h : x ≤ y <;> simp [h]

theorem cmp_olt (x y : EReal) : Ideal.cmp .olt x y = 1 ↔ x < y := by
  simp [Ideal.cmp, BitVec.ofBool]
  by_cases h : x < y <;> simp [h]

theorem cmp_ogt (x y : EReal) : Ideal.cmp .ogt x y = 1 ↔ y < x := by
  simp [Ideal.cmp, BitVec.ofBool]
  by_cases h : y < x <;> simp [h]

/-! ## The search finds the largest power of two not above `v` -/

/-- What the search keeps: the power of two at `n` is not above `v`, the one at `n + b` is (or `n + b` is 256). -/
def Inv (v : EReal) (b : ℕ) (c : BitVec 32) : Prop :=
  ∃ n : ℕ, c = BitVec.ofNat 32 n ∧ T n ≤ v ∧ n + b ≤ 256 ∧ (n + b = 256 ∨ v < T (n + b))

/-- One step halves the distance. -/
theorem inv_stp {v : EReal} {b : ℕ} {c : BitVec 32} (hb : 1 ≤ b) (h : Inv v (2 * b) c) :
    Inv v b (stp v (BitVec.ofNat 32 b) c) := by
  obtain ⟨n, rfl, hn, hle, hup⟩ := h
  unfold stp
  rw [add_ofNat]
  unfold Scalar.select
  by_cases hc : word (BitVec.ofNat 32 (n + b)) ≤ v
  · rw [if_pos ((cmp_ole _ _).mpr hc)]
    refine ⟨n + b, rfl, hc, by omega, ?_⟩
    rcases hup with h | h
    · left; omega
    · right; rwa [show n + b + b = n + 2 * b by ring]
  · rw [if_neg (fun h => hc ((cmp_ole _ _).mp h))]
    exact ⟨n, rfl, hn, by omega, .inr (not_le.mp hc)⟩

/-- The search's result: the field `n ≤ 255` with `T n ≤ v`, and `v < T (n + 1)` unless `n` is 255. -/
theorem field_spec {v : EReal} (hv : 0 ≤ v) :
    ∃ n : ℕ, field v = BitVec.ofNat 32 n ∧ T n ≤ v ∧ n ≤ 255 ∧ (n = 255 ∨ v < T (n + 1)) := by
  have h0 : Inv v 256 0#32 := ⟨0, rfl, by rwa [T_zero], by omega, .inl rfl⟩
  have h8 : Inv v 1 (field v) :=
    inv_stp (b := 1) (by omega) (inv_stp (b := 2) (by omega) (inv_stp (b := 4) (by omega) (inv_stp (b := 8) (by omega)
      (inv_stp (b := 16) (by omega) (inv_stp (b := 32) (by omega) (inv_stp (b := 64) (by omega) (inv_stp (b := 128) (by omega) h0)))))))
  obtain ⟨n, h1, h2, h3, h4⟩ := h8
  exact ⟨n, h1, h2, by omega, h4.imp (by omega) id⟩

theorem sub_self_le (v : EReal) : v - v ≤ 0 := by
  induction v with
  | bot => simp
  | top => simp
  | coe r => rw [← EReal.coe_sub, sub_self]; simp

theorem minsi_ofNat : ∀ n : Fin 256, IntOp.minsi (BitVec.ofNat 32 n) 252#32 = BitVec.ofNat 32 (min n 252) := by
  decide +kernel

theorem expo_table : ∀ n : Fin 253,
    Scalar.select (IntOp.cmpi .eq (BitVec.ofNat 32 n) 0#32) 0#32 (IntOp.subi (BitVec.ofNat 32 n) 126#32)
      = if (n : ℕ) = 0 then 0#32 else BitVec.ofNat 32 n - 126#32 := by
  decide +kernel

theorem words_table : ∀ n : Fin 253, (n : ℕ) ≠ 0 →
    IntOp.addi 127#32 (BitVec.ofNat 32 n - 126#32) = BitVec.ofNat 32 (n + 1)
      ∧ IntOp.subi 127#32 (BitVec.ofNat 32 n - 126#32) = BitVec.ofNat 32 (253 - n) := by
  decide +kernel

/-- The field the kernel goes on with is the field found, at most 252. -/
theorem capped_spec {v : EReal} {n : ℕ} (hn : n ≤ 255) (hf : field v = BitVec.ofNat 32 n) :
    capped v (field v) = BitVec.ofNat 32 (min n 252) := by
  unfold capped Scalar.select
  rw [if_pos ((cmp_ole _ _).mpr (by rw [Ideal.ofBits_zero_f32]; exact sub_self_le v)), hf]
  exact minsi_ofNat ⟨n, by omega⟩

/-- Below the least normal number the scale and its inverse are one. -/
theorem kscale_zero {v : EReal} (hf : field v = 0#32) : kscale v = (1 : ℝ) ∧ kinv v = (1 : ℝ) := by
  have he : expo v = 0#32 := by
    unfold expo ofField
    rw [capped_spec (n := 0) (by omega) hf]
    decide
  have h1 : T 127 = ((1 : ℝ) : EReal) := by rw [T_eq (by omega) (by omega)]; norm_num
  unfold kscale kinv
  rw [he]
  exact ⟨h1, h1⟩

/-- Elsewhere, with `k` the field found and at most 252, the scale is `2 ^ (k - 126)` and the inverse `2 ^ (126 - k)`. -/
theorem kscale_pos {v : EReal} {n : ℕ} (h1 : 1 ≤ n) (hn : n ≤ 255) (hf : field v = BitVec.ofNat 32 n) :
    kscale v = (((2 : ℝ) ^ (((min n 252 : ℕ) : ℤ) - 126) : ℝ) : EReal)
      ∧ kinv v = (((2 : ℝ) ^ (126 - ((min n 252 : ℕ) : ℤ)) : ℝ) : EReal) := by
  have hk : min n 252 < 253 := by omega
  have hk1 : 1 ≤ min n 252 := by omega
  generalize hkk : min n 252 = k at hk hk1
  have he : expo v = BitVec.ofNat 32 k - 126#32 := by
    unfold expo ofField
    rw [capped_spec hn hf, hkk]
    exact (expo_table ⟨k, hk⟩).trans (if_neg (by simp; omega))
  obtain ⟨ha, hb⟩ := words_table ⟨k, hk⟩ (by simp; omega)
  simp only at ha hb
  unfold kscale kinv
  rw [he, ha, hb]
  refine ⟨(T_eq (n := k + 1) (by omega) (by omega)).trans ?_, (T_eq (n := 253 - k) (by omega) (by omega)).trans ?_⟩
  · exact congrArg (fun z : ℤ => (((2 : ℝ) ^ z : ℝ) : EReal)) (by omega)
  · exact congrArg (fun z : ℤ => (((2 : ℝ) ^ z : ℝ) : EReal)) (by omega)

/-! ## The reference's exponent -/

/-- The constants -125 … 126 of the reference, as the program spells them: the lane's number less 125. -/
def kk (k : Fin 252) : EReal := (((BitVec.ofNat 32 k.val).toInt : ℝ) : EReal) - Ideal.ofBits .f32 0x42FA0000#32

/-- The reference's exponent: the least of the integers `k` with `2 ^ k > v` and 126; zero below the least normal number. -/
def rexpo (v : EReal) : EReal :=
  Scalar.select (Ideal.cmp .olt v (Ideal.ofBits .f32 0x00800000#32)) (Ideal.ofBits .f32 0x00000000#32)
    (Finset.univ.fold min (Ideal.ofBits .f32 0x7F800000#32) fun k : Fin 252 =>
      Scalar.select (Ideal.cmp .ogt (Ideal.exp2 (kk k)) v) (kk k) (Ideal.ofBits .f32 0x42FC0000#32))

theorem ofBits_125 : Ideal.ofBits .f32 0x42FA0000#32 = ((125 : ℝ) : EReal) := by
  simp [Ideal.ofBits, Ideal.ieee, -EReal.coe_mul]; norm_num

theorem ofBits_126 : Ideal.ofBits .f32 0x42FC0000#32 = ((126 : ℝ) : EReal) := by
  simp [Ideal.ofBits, Ideal.ieee, -EReal.coe_mul]; norm_num

theorem ofBits_tiny : Ideal.ofBits .f32 0x00800000#32 = T 1 := rfl

theorem ofBits_top : Ideal.ofBits .f32 0x7F800000#32 = ⊤ := T_top

theorem toInt_table : ∀ k : Fin 252, (BitVec.ofNat 32 k.val).toInt = k.val := by decide +kernel

theorem kk_eq (k : Fin 252) : kk k = (((k.val : ℤ) - 125 : ℤ) : ℝ) := by
  unfold kk
  rw [toInt_table, ofBits_125, ← EReal.coe_sub]
  push_cast; rfl

theorem exp2_int (k : ℤ) : Ideal.exp2 (((k : ℝ)) : EReal) = (((2 : ℝ) ^ k : ℝ) : EReal) := by
  show ((Real.rpow 2 (k : ℝ) : ℝ) : EReal) = _
  rw [← Real.rpow_intCast]; rfl

theorem exp2_kk (k : Fin 252) : Ideal.exp2 (kk k) = (((2 : ℝ) ^ ((k.val : ℤ) - 125) : ℝ) : EReal) := by
  rw [kk_eq, exp2_int]

/-- Below the least normal number the reference's exponent is zero. -/
theorem rexpo_zero {v : EReal} (h : v < T 1) : rexpo v = ((0 : ℤ) : ℝ) := by
  unfold rexpo Scalar.select
  rw [if_pos ((cmp_olt _ _).mpr (by rwa [ofBits_tiny])), Ideal.ofBits_zero_f32]; simp

/-- From the least normal number on, with `n` the largest field whose power of two is not above `v`, it is `n - 126`, and 126 when
    `n` is above 252. -/
theorem rexpo_pos {v : EReal} {n : ℕ} (h1 : 1 ≤ n) (hn : n ≤ 255) (hlo : T n ≤ v) (hup : n = 255 ∨ v < T (n + 1)) :
    rexpo v = ((((min n 252 : ℕ) : ℤ) - 126 : ℤ) : ℝ) := by
  have hmono : ∀ a b : ℕ, 1 ≤ a → a ≤ b → b ≤ 254 → T a ≤ T b := fun a b ha hab hb => by
    rw [T_eq ha (by omega), T_eq (by omega) hb, EReal.coe_le_coe_iff]
    exact zpow_le_zpow_right₀ (by norm_num) (by omega)
  have hmono' : ∀ a : ℕ, 1 ≤ a → a ≤ n → T a ≤ v := fun a ha han => by
    refine le_trans ?_ hlo
    rcases Nat.lt_or_ge n 255 with h | h
    · exact hmono a n ha han (by omega)
    · rw [show n = 255 by omega, T_top]; exact le_top
  have hcond : ∀ k : Fin 252, v < Ideal.exp2 (kk k) → min n 252 ≤ k.val + 1 := fun k hk => by
    by_contra hlt
    rw [exp2_kk, show ((k.val : ℤ) - 125) = (((k.val + 2 : ℕ) : ℤ) - 127) by push_cast; ring,
      ← T_eq (by omega) (by omega)] at hk
    exact absurd (hmono' (k.val + 2) (by omega) (by omega)) (not_le.mpr hk)
  unfold rexpo
  rw [show ∀ a b : EReal, Scalar.select (Ideal.cmp .olt v (Ideal.ofBits .f32 0x00800000#32)) a b = b from fun a b => by
    unfold Scalar.select
    rw [if_neg (fun h => absurd ((cmp_olt _ _).mp h) (by rw [ofBits_tiny]; exact not_lt.mpr (hmono' 1 le_rfl h1)))]]
  refine le_antisymm ?_ ?_
  · refine Finset.fold_min_le _ |>.mpr (.inr ⟨⟨min n 252 - 1, by omega⟩, Finset.mem_univ _, ?_⟩)
    unfold Scalar.select
    split
    · rw [kk_eq, EReal.coe_le_coe_iff, Int.cast_le]; simp only; omega
    · rename_i hc
      rw [cmp_ogt, exp2_kk] at hc
      rw [ofBits_126]
      have : 252 ≤ n := by
        by_contra hlt
        apply hc
        rw [show (((⟨min n 252 - 1, by omega⟩ : Fin 252).val : ℤ) - 125) = (((n + 1 : ℕ) : ℤ) - 127) by simp only; omega,
          ← T_eq (by omega) (by omega)]
        exact hup.resolve_left (by omega)
      rw [show min n 252 = 252 by omega]
      norm_num
  · refine Finset.le_fold_min _ |>.mpr ⟨by rw [ofBits_top]; exact le_top, fun k _ => ?_⟩
    unfold Scalar.select
    split
    · rename_i hc
      rw [cmp_ogt] at hc
      have := hcond k hc
      rw [kk_eq, EReal.coe_le_coe_iff, Int.cast_le]; omega
    · rw [ofBits_126, show (126 : ℝ) = ((126 : ℤ) : ℝ) by norm_num, EReal.coe_le_coe_iff, Int.cast_le]; omega

/-! ## The two scales are one -/

/-- For every `v ≥ 0` the kernel's scale and inverse are two to the reference's exponent and to its negative. -/
theorem scale_eq {v : EReal} (hv : 0 ≤ v) :
    kscale v = Ideal.exp2 (rexpo v) ∧ kinv v = Ideal.exp2 (Ideal.ofBits .f32 0x00000000#32 - rexpo v) := by
  obtain ⟨n, hf, hlo, hn, hup⟩ := field_spec hv
  have hneg : ∀ z : ℤ, (0 : EReal) - (((z : ℝ)) : EReal) = (((-z : ℤ) : ℝ) : EReal) := fun z => by
    rw [← EReal.coe_zero, ← EReal.coe_sub]; push_cast; rw [zero_sub]
  rcases Nat.eq_zero_or_pos n with rfl | h1
  · have hlt : v < T 1 := hup.resolve_left (by omega)
    rw [rexpo_zero hlt, Ideal.ofBits_zero_f32, hneg, exp2_int, exp2_int, (kscale_zero hf).1, (kscale_zero hf).2]
    norm_num
  · rw [rexpo_pos h1 hn hlo hup, Ideal.ofBits_zero_f32, hneg, exp2_int, exp2_int, (kscale_pos h1 hn hf).1, (kscale_pos h1 hn hf).2]
    exact ⟨rfl, congrArg (fun z : ℤ => (((2 : ℝ) ^ z : ℝ) : EReal)) (by omega)⟩

end Cert.Scale
-- ==== Proof.Spec.lean ====
/-
  What one call of the kernel computes, element by element, over the extended reals: the activation `act`, the row's scale exponent's
  argument `mag`, the two results. The row count `M` is a parameter, so one set of definitions serves a block of 512 rows and the
  whole array of 16384 rows. The scale is spelled as the kernel finds it (`Cert.Scale.kscale`, `kinv`); Exponent.lean proves it
  the reference's.
-/
module

public import proofs.«01_k».proof.Proof.Exponent
public import Idealize.ShloMosaic.Lib.Pointwise.Index

@[expose] public section

noncomputable section

namespace Cert.Spec

open Idealize.ShloMosaic

/-- The exact GELU: `(1/2) h (1 + erf (h √(1/2)))`, its two constants as the f32 words the programs hold. -/
def gelu (h : EReal) : EReal :=
  Ideal.ofBits .f32 0x3F000000#32 * h * (1 + FloatOps.erf (F := Ideal) (φ := .f32) (h * Ideal.ofBits .f32 0x3F3504F3#32))

section

variable {M : ℕ} (x : (⟨2, ![M, 3072]⟩ : Shape).Idx → EReal) (xs : (⟨2, ![M, 1]⟩ : Shape).Idx → EReal)
  (w : (⟨2, ![3072, 2048]⟩ : Shape).Idx → EReal) (ws b : (⟨2, ![1, 2048]⟩ : Shape).Idx → EReal)

/-- The activation at row `r` and column `c`: the row's dot product with the column, scaled by the row's and the column's scale, plus
    the column's bias, through the GELU. -/
def act (r : Fin M) (c : Fin 2048) : EReal :=
  gelu ((∑ k : Fin 3072, x (ix2 r k) * w (ix2 k c)) * xs (ix2 r 0) * ws (ix2 0 c) + b (ix2 0 c))

/-- The absolute value of the activation. -/
def mag (r : Fin M) (c : Fin 2048) : EReal := max (act x xs w ws b r c) (-act x xs w ws b r c)

/-- The largest absolute value of a row, times 1/448 (as its f32 word): what the row's scale is found from. -/
def level (r : Fin M) : EReal :=
  (Finset.univ.fold max ⊥ fun c : Fin 2048 => mag x xs w ws b r c) * Ideal.ofBits .f32 0x3B124925#32

/-- The first result: the activation times the row's inverse scale, clipped to ±448. -/
def Y (r : Fin M) (c : Fin 2048) : EReal :=
  min (Ideal.ofBits .f32 0x43E00000#32)
    (max (Ideal.ofBits .f32 0xC3E00000#32) (act x xs w ws b r c * Scale.kinv (level x xs w ws b r)))

/-- The second result: the row's scale. -/
def YS (r : Fin M) : EReal := Scale.kscale (level x xs w ws b r)

end

/-- An absolute value is not negative. -/
theorem mag_nonneg {M : ℕ} (x : (⟨2, ![M, 3072]⟩ : Shape).Idx → EReal) (xs w ws b) (r : Fin M) (c : Fin 2048) :
    0 ≤ mag x xs w ws b r c := by
  unfold mag
  rcases le_total 0 (act x xs w ws b r c) with h | h
  · exact le_max_of_le_left h
  · exact le_max_of_le_right (by rw [← neg_zero]; exact EReal.neg_le_neg_iff.mpr h)

theorem ofBits_inv448 : (0 : EReal) ≤ Ideal.ofBits .f32 0x3B124925#32 := by
  simp only [Ideal.ofBits, Ideal.ieee]
  rw [if_neg (by decide), if_neg (by decide), if_neg (by decide)]
  exact EReal.coe_nonneg.mpr (by positivity)

/-- So the level is not negative: the precondition of `Scale.scale_eq`, met at every input. -/
theorem level_nonneg {M : ℕ} (x : (⟨2, ![M, 3072]⟩ : Shape).Idx → EReal) (xs w ws b) (r : Fin M) :
    0 ≤ level x xs w ws b r :=
  mul_nonneg (Finset.le_fold_max _ |>.mpr (.inr ⟨0, Finset.mem_univ _, mag_nonneg x xs w ws b r 0⟩)) ofBits_inv448

/-- Two calls agree at a row when the row's data, the matrix and the per-column vectors agree: a block's row is the array's row. -/
theorem act_congr {M N : ℕ} {x : (⟨2, ![M, 3072]⟩ : Shape).Idx → EReal} {x' : (⟨2, ![N, 3072]⟩ : Shape).Idx → EReal}
    {xs : (⟨2, ![M, 1]⟩ : Shape).Idx → EReal} {xs' : (⟨2, ![N, 1]⟩ : Shape).Idx → EReal} {w w' ws ws' b b'} {r : Fin M} {r' : Fin N}
    (hx : ∀ k, x (ix2 r k) = x' (ix2 r' k)) (hs : xs (ix2 r 0) = xs' (ix2 r' 0)) (hw : w = w') (hws : ws = ws') (hb : b = b') :
    act x xs w ws b r = act x' xs' w' ws' b' r' := by
  subst hw hws hb
  funext c
  unfold act
  simp only [hx, hs]

theorem level_congr {M N : ℕ} {x : (⟨2, ![M, 3072]⟩ : Shape).Idx → EReal} {x' : (⟨2, ![N, 3072]⟩ : Shape).Idx → EReal}
    {xs xs' w w' ws ws' b b'} {r : Fin M} {r' : Fin N}
    (h : act x xs w ws b r = act x' xs' w' ws' b' r') : level x xs w ws b r = level x' xs' w' ws' b' r' := by
  unfold level mag
  rw [h]

end Cert.Spec
-- ==== Proof.Block.lean ====
/-
  The kernel's body at one grid point, read at an index (ideal instance): each of the eight column blocks' payloads is the one
  formula `k0_pay5` of the block's loads, that formula at an index is `Spec.act` of the whole blocks, the running maxima over 128
  lanes end at the row's largest absolute value, and the integer payloads are `Scale.expo`.
-/
module

public import proofs.«01_k».proof.Proof.Spec
public import proofs.«01_k».proof.Proof.Gen.KernelIdeal.Skeleton
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.ReduceUnfold
public import Idealize.ShloMosaic.Lib.Pointwise.Blocks
public import Idealize.ShloMosaic.Lib.Pipeline.Value
public import Idealize.ShloMosaic.Lib.Tactic

@[expose] public section

noncomputable section

open Idealize.ShloMosaic

namespace Cert.KernelIdeal.RefValue

open Cert.KernelIdeal Cert.KernelIdeal.Gen

/-! ## One column block -/

/-- The first block's payload at an index: the GELU of the scaled and biased dot product. -/
theorem pay5_apply (x : Vec Ideal S512x3072 .fp8e4m3) (xs : Vec Ideal S512x1 .f32) (w : Vec Ideal S3072x256 .fp8e4m3)
    (ws : Vec Ideal S1x256 .f32) (b : Vec Ideal S1x256 .bf16) (r : Fin 512) (c : Fin 256) :
    k0_pay5 x xs w ws b (ix2 r c)
      = Spec.gelu ((∑ k : Fin 3072, x (ix2 r k) * w (ix2 k c)) * xs (ix2 r 0) * ws (ix2 0 c) + b (ix2 0 c)) := by
  pointwise [k0_pay5, k0_pay3, k0_pay4]
  rfl

/-- A load of 256 columns from column `o` on, at an index. -/
theorem ld_cols {e : EltTy} {K : ℕ} (X : (⟨2, ![K, 2048]⟩ : Shape).Idx → Elt Ideal e) (o : ℕ)
    (inb : ∀ a, (![0, o] : Fin 2 → ℕ) a + (![K, 256] : Fin 2 → ℕ) a ≤ (⟨2, ![K, 2048]⟩ : Shape).size a)
    (ho : o + 256 ≤ 2048) (k : Fin K) (c : Fin 256) :
    View.ld (Val := Elt Ideal) X (Rect.unit (s := ⟨2, ![K, 2048]⟩) ![0, o] ![K, 256] inb) (ix2 k c) = X (ix2 k ⟨o + c.val, by omega⟩) := by
  refine congrArg X (funext fun a => Fin.ext ?_)
  match a with
  | ⟨0, _⟩ => show 0 + 1 * k.val = k.val; omega
  | ⟨1, _⟩ => show o + 1 * c.val = o + c.val; omega

variable (x : Vec Ideal S512x3072 .fp8e4m3) (xs : Vec Ideal S512x1 .f32) (w : Vec Ideal S3072x2048 .fp8e4m3)
  (ws : Vec Ideal S1x2048 .f32) (b : Vec Ideal S1x2048 .bf16)

/-- The block of the columns from `o` on is `Spec.act` at those columns. -/
theorem block_apply (o : ℕ) (ho : o + 256 ≤ 2048) (i1 i2 i3) (r : Fin 512) (c : Fin 256) :
    k0_pay5 x xs (View.ld (Val := Elt Ideal) w (Rect.unit (s := S3072x2048) ![0, o] ![3072, 256] i1))
        (View.ld (Val := Elt Ideal) ws (Rect.unit (s := S1x2048) ![0, o] ![1, 256] i2))
        (View.ld (Val := Elt Ideal) b (Rect.unit (s := S1x2048) ![0, o] ![1, 256] i3)) (ix2 r c)
      = Spec.act x xs w ws b r ⟨o + c.val, by omega⟩ := by
  rw [pay5_apply]
  unfold Spec.act
  rw [ld_cols ws o i2 ho, ld_cols b o i3 ho]
  refine congrArg Spec.gelu (congrArg (· + _) (congrArg (· * _) (congrArg (· * _) (Finset.sum_congr rfl fun k _ => ?_))))
  rw [ld_cols w o i1 ho]

section

variable (W : Vec Ideal S3072x256 .fp8e4m3) (WS : Vec Ideal S1x256 .f32) (B : Vec Ideal S1x256 .bf16)

/-! The other blocks' payloads, differently cut, are the first block's formula. -/

theorem pay10_eq : k0_pay10 (k0_pay8 x W) (k0_pay9 xs) WS B = k0_pay5 x xs W WS B := rfl

theorem pay15_eq : k0_pay15 (k0_pay13 (k0_pay3 x) (k0_pay4 xs) W WS B) (k0_pay14 (k0_pay3 x) (k0_pay4 xs) W WS B)
    = k0_pay5 x xs W WS B := rfl

theorem pay17_eq : k0_pay17 (k0_pay3 x) (k0_pay4 xs) W WS B = k0_pay5 x xs W WS B := rfl

theorem pay20_eq : k0_pay20 (k0_pay3 x) (k0_pay4 xs) W WS B = k0_pay5 x xs W WS B := rfl

theorem pay24_eq : k0_pay24 (k0_pay23 (k0_pay3 x) (k0_pay4 xs) W WS) B = k0_pay5 x xs W WS B := rfl

theorem pay27_eq : k0_pay27 (k0_pay3 x) (k0_pay4 xs) W WS B = k0_pay5 x xs W WS B := rfl

theorem pay29_eq : k0_pay29 (k0_pay3 x) (k0_pay4 xs) W WS B = k0_pay5 x xs W WS B := rfl

/-! What each block stores is that block. -/

theorem pay6_eq : k0_pay6 x xs W WS B = k0_pay5 x xs W WS B := shapeCast_self _ _

theorem pay11_eq : k0_pay11 (k0_pay8 x W) (k0_pay9 xs) WS B = k0_pay5 x xs W WS B := shapeCast_self _ _

theorem pay16_eq : k0_pay16 (k0_pay13 (k0_pay3 x) (k0_pay4 xs) W WS B) (k0_pay14 (k0_pay3 x) (k0_pay4 xs) W WS B)
    = k0_pay5 x xs W WS B := shapeCast_self _ _

theorem pay18_eq : k0_pay18 (k0_pay3 x) (k0_pay4 xs) W WS B = k0_pay5 x xs W WS B := shapeCast_self _ _

theorem pay21_eq : k0_pay21 (k0_pay3 x) (k0_pay4 xs) W WS B = k0_pay5 x xs W WS B := shapeCast_self _ _

theorem pay25_eq : k0_pay25 (k0_pay23 (k0_pay3 x) (k0_pay4 xs) W WS) B = k0_pay5 x xs W WS B := shapeCast_self _ _

theorem pay28_eq : k0_pay28 (k0_pay27 (k0_pay3 x) (k0_pay4 xs) W WS B) = k0_pay5 x xs W WS B := shapeCast_self _ _

theorem pay30_eq : k0_pay30 (k0_pay3 x) (k0_pay4 xs) W WS B = k0_pay5 x xs W WS B := shapeCast_self _ _

end

/-- The word of the negative infinity. -/
theorem ofBits_bot : Ideal.ofBits .f32 0xFF800000#32 = ⊥ := by
  simp [Ideal.ofBits, Ideal.ieee]

/-! ## The row's largest absolute value -/

/-- The absolute value of the entry at block `q` and column `c` of that block. -/
def ab (A : ℕ → Fin 256 → EReal) (q : ℕ) (c : Fin 256) : EReal := max (A q c) (-A q c)

/-- The maximum over all 2048 columns of a row cut in eight blocks of 256. -/
def rowmax (A : ℕ → Fin 256 → EReal) : EReal :=
  Finset.univ.fold max ⊥ fun c : Fin 2048 => ab A (c.val / 256) ⟨c.val % 256, Nat.mod_lt _ (by omega)⟩

theorem ab_nonneg (A : ℕ → Fin 256 → EReal) (q : ℕ) (c : Fin 256) : 0 ≤ ab A q c := by
  unfold ab
  rcases le_total 0 (A q c) with h | h
  · exact le_max_of_le_left h
  · exact le_max_of_le_right (by rw [← neg_zero]; exact EReal.neg_le_neg_iff.mpr h)

theorem ab_le_rowmax (A : ℕ → Fin 256 → EReal) (q : ℕ) (hq : q < 8) (c : Fin 256) : ab A q c ≤ rowmax A := by
  refine Finset.le_fold_max _ |>.mpr (.inr ⟨⟨256 * q + c.val, by omega⟩, Finset.mem_univ _, le_of_eq ?_⟩)
  have h1 : (256 * q + c.val) / 256 = q := by omega
  have h2 : (256 * q + c.val) % 256 = c.val := by omega
  simp only [h1, h2]

/-- The maximum over 128 lanes of the running maximum over the sixteen chunks, started at zero, is the maximum over all columns. -/
theorem lanes_eq (A : ℕ → Fin 256 → EReal) (f : Fin 128 → EReal)
    (hf : ∀ l : Fin 128, f l =
      max (max (max (max (max (max (max (max (max (max (max (max (max (max (max (max 0
        (ab A 0 ⟨l.val, by omega⟩)) (ab A 0 ⟨128 + l.val, by omega⟩))
        (ab A 1 ⟨l.val, by omega⟩)) (ab A 1 ⟨128 + l.val, by omega⟩))
        (ab A 2 ⟨l.val, by omega⟩)) (ab A 2 ⟨128 + l.val, by omega⟩))
        (ab A 3 ⟨l.val, by omega⟩)) (ab A 3 ⟨128 + l.val, by omega⟩))
        (ab A 4 ⟨l.val, by omega⟩)) (ab A 4 ⟨128 + l.val, by omega⟩))
        (ab A 5 ⟨l.val, by omega⟩)) (ab A 5 ⟨128 + l.val, by omega⟩))
        (ab A 6 ⟨l.val, by omega⟩)) (ab A 6 ⟨128 + l.val, by omega⟩))
        (ab A 7 ⟨l.val, by omega⟩)) (ab A 7 ⟨128 + l.val, by omega⟩)) :
    Finset.univ.fold max ⊥ f = rowmax A := by
  refine le_antisymm (Finset.fold_max_le _ |>.mpr ⟨bot_le, fun l _ => ?_⟩) (Finset.fold_max_le _ |>.mpr ⟨bot_le, fun c _ => ?_⟩)
  · rw [hf]
    simp only [max_le_iff]
    refine ⟨⟨⟨⟨⟨⟨⟨⟨⟨⟨⟨⟨⟨⟨⟨⟨(ab_nonneg A 0 0).trans (ab_le_rowmax A 0 (by omega) 0), ?_⟩, ?_⟩, ?_⟩, ?_⟩, ?_⟩, ?_⟩, ?_⟩, ?_⟩, ?_⟩, ?_⟩, ?_⟩, ?_⟩,
      ?_⟩, ?_⟩, ?_⟩, ?_⟩
    all_goals exact ab_le_rowmax A _ (by omega) _
  · have hq : c.val / 256 < 8 := by omega
    generalize c.val / 256 = q at hq
    have hm : c.val % 256 < 256 := Nat.mod_lt _ (by omega)
    show ab A q ⟨c.val % 256, hm⟩ ≤ _
    obtain ⟨k, hkk⟩ : ∃ k, k = c.val % 256 := ⟨_, rfl⟩
    revert hm
    rw [← hkk]
    intro hm
    refine Finset.le_fold_max _ |>.mpr (.inr ⟨⟨k % 128, by omega⟩, Finset.mem_univ _, ?_⟩)
    rw [hf]
    have hk : k = k % 128 ∨ k = 128 + k % 128 := by omega
    have : ab A q ⟨k, hm⟩ = ab A q ⟨k % 128, by omega⟩ ∨ ab A q ⟨k, hm⟩ = ab A q ⟨128 + k % 128, by omega⟩ :=
      hk.imp (fun h => congrArg (ab A q) (Fin.ext h)) (fun h => congrArg (ab A q) (Fin.ext h))
    rcases this with h | h <;> rw [h] <;> interval_cases q <;> simp only [le_max_iff, le_refl, true_or, or_true]

/-- The running maximum over the sixteen chunks of 128 lanes of the eight blocks, whose entries in row `r` are `A 0 … A 7`, and the maximum of its lanes. -/
theorem lanes_apply (W0 W1 W2 W3 W4 W5 W6 W7 : Vec Ideal S3072x256 .fp8e4m3) (S0 S1 S2 S3 S4 S5 S6 S7 : Vec Ideal S1x256 .f32)
    (B0 B1 B2 B3 B4 B5 B6 B7 : Vec Ideal S1x256 .bf16) (r : Fin 512) (A : ℕ → Fin 256 → EReal)
    (h0 : ∀ c, k0_pay5 x xs W0 S0 B0 (ix2 r c) = A 0 c) (h1 : ∀ c, k0_pay5 x xs W1 S1 B1 (ix2 r c) = A 1 c)
    (h2 : ∀ c, k0_pay5 x xs W2 S2 B2 (ix2 r c) = A 2 c) (h3 : ∀ c, k0_pay5 x xs W3 S3 B3 (ix2 r c) = A 3 c)
    (h4 : ∀ c, k0_pay5 x xs W4 S4 B4 (ix2 r c) = A 4 c) (h5 : ∀ c, k0_pay5 x xs W5 S5 B5 (ix2 r c) = A 5 c)
    (h6 : ∀ c, k0_pay5 x xs W6 S6 B6 (ix2 r c) = A 6 c) (h7 : ∀ c, k0_pay5 x xs W7 S7 B7 (ix2 r c) = A 7 c) :
    k0_pay31 (k0_pay3 x) (k0_pay4 xs)
      (k0_pay26
        (k0_pay22 (k0_pay3 x) (k0_pay4 xs) (k0_pay17 (k0_pay3 x) (k0_pay4 xs) W3 S3 B3)
          (k0_pay19 (k0_pay3 x) (k0_pay4 xs)
            (k0_pay12 (k0_pay7 x xs W0 S0 B0) (k0_pay8 x W1) (k0_pay9 xs) S1 B1)
            (k0_pay13 (k0_pay3 x) (k0_pay4 xs) W2 S2 B2) (k0_pay14 (k0_pay3 x) (k0_pay4 xs) W2 S2 B2) W3 S3 B3)
          W4 S4 B4)
        (k0_pay23 (k0_pay3 x) (k0_pay4 xs) W5 S5) B5)
      (k0_pay27 (k0_pay3 x) (k0_pay4 xs) W6 S6 B6) W7 S7 B7 (ix2 r 0) = rowmax A := by
  simp only [k0_pay31, k0_pay26, k0_pay22, k0_pay19, k0_pay12, k0_pay7, pay10_eq, pay15_eq, pay17_eq, pay20_eq, pay24_eq, pay27_eq, pay29_eq]
  pointwise [h0, h1, h2, h3, h4, h5, h6, h7]
  rw [show Ideal.ofBits .f32 0xFF800000#32 = ⊥ from ofBits_bot]
  exact lanes_eq A _ fun l => rfl

/-! ## The scale -/

/-- One step of the search over a column of 512 rows. -/
def vstp (v : FVec Ideal S512x1 .f32) (b : BitVec 32) (c : IVec S512x1 32) : IVec S512x1 32 :=
  select (cmpf .ole (bitcastToFloat .f32 (shli (addi c (broadcast S512x1 b)) (broadcast S512x1 23#32))) v)
    (addi c (broadcast S512x1 b)) c

theorem vstp_apply (v : FVec Ideal S512x1 .f32) (b : BitVec 32) (c : IVec S512x1 32) (i : S512x1.Idx) :
    vstp v b c i = Scale.stp (v i) b (c i) := rfl

/-- The first four steps of the search. -/
theorem pay34_eq (a : FVec Ideal S512x1 .f32) :
    k0_pay34 a k0_pay32 = vstp (k0_pay33 a k0_pay32) 16#32 (vstp (k0_pay33 a k0_pay32) 32#32
      (vstp (k0_pay33 a k0_pay32) 64#32 (vstp (k0_pay33 a k0_pay32) 128#32 (broadcast S512x1 0#32)))) := by
  simp only [k0_pay34, vstp]

/-- The fifth step. -/
theorem pay35_apply (a : FVec Ideal S512x1 .f32) (i : S512x1.Idx) :
    Scalar.select (k0_pay35 a k0_pay32 i) (IntOp.addi (k0_pay34 a k0_pay32 i) 8#32) (k0_pay34 a k0_pay32 i)
      = Scale.stp (k0_pay33 a k0_pay32 i) 8#32 (k0_pay34 a k0_pay32 i) := rfl

/-- The choice of the capped field and the exponent, over a column of 512 rows. -/
def vofField (v : FVec Ideal S512x1 .f32) (f : IVec S512x1 32) : IVec S512x1 32 :=
  select (cmpi .eq (select (cmpf .ole (subf v v) (broadcast S512x1 (Scalar.ofBits .f32 0x00000000#32))) (minsi f (broadcast S512x1 252#32))
      (broadcast S512x1 255#32)) (broadcast S512x1 0#32)) (broadcast S512x1 0#32)
    (subi (select (cmpf .ole (subf v v) (broadcast S512x1 (Scalar.ofBits .f32 0x00000000#32))) (minsi f (broadcast S512x1 252#32))
      (broadcast S512x1 255#32)) (broadcast S512x1 126#32))

theorem vofField_apply (v : FVec Ideal S512x1 .f32) (f : IVec S512x1 32) (i : S512x1.Idx) :
    vofField v f i = Scale.ofField (v i) (f i) := rfl

/-- The last three steps and the exponent, from the field after five steps. -/
theorem pay36_eq (v : FVec Ideal S512x1 .f32) (f : IVec S512x1 32) (m : IVec S512x1 1) :
    k0_pay36 v f m 8#32 = vofField v (vstp v 1#32 (vstp v 2#32 (vstp v 4#32 (select m (addi f (broadcast S512x1 8#32)) f)))) := by
  simp only [k0_pay36, vofField, vstp]

/-- The kernel's integers at a row are `Scale.expo` of the row's level. -/
theorem expo_apply (a : FVec Ideal S512x1 .f32) (i : S512x1.Idx) :
    k0_pay36 (k0_pay33 a k0_pay32) (k0_pay34 a k0_pay32) (k0_pay35 a k0_pay32) 8#32 i
      = Scale.expo (a i * Ideal.ofBits .f32 0x3B124925#32) := by
  have h5 : select (k0_pay35 a k0_pay32) (addi (k0_pay34 a k0_pay32) (broadcast S512x1 8#32)) (k0_pay34 a k0_pay32) i
      = Scale.stp (k0_pay33 a k0_pay32 i) 8#32 (k0_pay34 a k0_pay32 i) := pay35_apply a i
  rw [pay36_eq, vofField_apply, vstp_apply, vstp_apply, vstp_apply, h5, pay34_eq, vstp_apply, vstp_apply, vstp_apply, vstp_apply]
  unfold Scale.expo Scale.field
  rfl

theorem pay1_apply (e : IVec S512x1 32) (i : S512x1.Idx) :
    k0_pay1 (F := Ideal) e k0_pay37 i = Scale.word (IntOp.addi 127#32 (e i)) := rfl

theorem pay2_apply (e : IVec S512x1 32) (g : Vec Ideal S512x2048 .f32) (r : Fin 512) (c : Fin 2048) :
    k0_pay2 (F := Ideal) e g (ix2 r c) = min (Ideal.ofBits .f32 0x43E00000#32)
      (max (Ideal.ofBits .f32 0xC3E00000#32) (g (ix2 r c) * Scale.word (IntOp.subi 127#32 (e (ix2 r 0))))) := by
  pointwise [k0_pay2]
  rfl

end Cert.KernelIdeal.RefValue
-- ==== Proof.KernelBlocks.lean ====
/-
  What the kernel's body leaves in its two output blocks at a grid point, at every index (ideal instance): the first result
  `Spec.Y` and the row scale `Spec.YS` of the point's input blocks.
-/
module

public import proofs.«01_k».proof.Proof.Block
public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.RefValue

open Cert.KernelIdeal Cert.KernelIdeal.Gen

theorem hz : (![0, 0] : Fin 2 → Nat) = fun _ => 0 := funext fun a => by fin_cases a <;> rfl

variable (x : Vec Ideal S512x3072 .fp8e4m3) (xs : Vec Ideal S512x1 .f32) (w : Vec Ideal S3072x2048 .fp8e4m3)
  (ws : Vec Ideal S1x2048 .f32) (b : Vec Ideal S1x2048 .bf16)

/-- Row `r` of the activation, cut in eight blocks of 256 columns. -/
def rowOf (r : Fin 512) (q : ℕ) (c : Fin 256) : EReal := Spec.act x xs w ws b r ⟨(256 * q + c.val) % 2048, Nat.mod_lt _ (by omega)⟩

/-- The maximum over the cut row is the maximum over the row. -/
theorem rowmax_rowOf (r : Fin 512) :
    rowmax (rowOf x xs w ws b r) = Finset.univ.fold max ⊥ fun c : Fin 2048 => Spec.mag x xs w ws b r c := by
  unfold rowmax
  refine congrArg (fun f => Finset.univ.fold max ⊥ f) (funext fun c => ?_)
  unfold ab rowOf Spec.mag
  have h : (⟨(256 * (c.val / 256) + c.val % 256) % 2048, Nat.mod_lt _ (by omega)⟩ : Fin 2048) = c := Fin.ext (by dsimp only; omega)
  simp only [h]

/-- The block of the columns from `o = 256 q` on is the cut row's piece `q`. -/
theorem block_rowOf (o q : ℕ) (ho : o = 256 * q) (hq : q < 8) (i1 i2 i3) (r : Fin 512) (c : Fin 256) :
    k0_pay5 x xs (View.ld (Val := Elt Ideal) w (Rect.unit (s := S3072x2048) ![0, o] ![3072, 256] i1))
        (View.ld (Val := Elt Ideal) ws (Rect.unit (s := S1x2048) ![0, o] ![1, 256] i2))
        (View.ld (Val := Elt Ideal) b (Rect.unit (s := S1x2048) ![0, o] ![1, 256] i3)) (ix2 r c)
      = rowOf x xs w ws b r q c := by
  rw [block_apply x xs w ws b o (by omega)]
  unfold rowOf
  exact congrArg _ (Fin.ext (by dsimp only; omega))

/-- The scratch's piece at the columns from `o` on is the activation there. -/
theorem piece_act (o : ℕ) (ho : o + 256 ≤ 2048) (i1 i2 i3) (i4 : ∀ a, (![0, o] : Fin 2 → ℕ) a + (![512, 256] : Fin 2 → ℕ) a ≤ S512x2048.size a)
    (y : S512x256.Idx) :
    k0_pay5 x xs (View.ld (Val := Elt Ideal) w (Rect.unit (s := S3072x2048) ![0, o] ![3072, 256] i1))
        (View.ld (Val := Elt Ideal) ws (Rect.unit (s := S1x2048) ![0, o] ![1, 256] i2))
        (View.ld (Val := Elt Ideal) b (Rect.unit (s := S1x2048) ![0, o] ![1, 256] i3)) y
      = (fun z : S512x2048.Idx => Spec.act x xs w ws b (z 0) (z 1)) ((Rect.unit (s := S512x2048) ![0, o] ![512, 256] i4).emb y) := by
  obtain ⟨r, c, rfl⟩ : ∃ (r : Fin 512) (c : Fin 256), y = ix2 r c := ⟨y 0, y 1, eq_ix2 y⟩
  rw [block_apply x xs w ws b o ho]
  show _ = Spec.act x xs w ws b _ _
  congr 1
  · exact Fin.ext (by show r.val = 0 + 1 * r.val; omega)
  · exact Fin.ext (by show o + c.val = o + 1 * c.val; omega)

/-- An index whose column is one of the 256 from `o` on lies in the box of those columns. -/
theorem mem_cols (o : ℕ) (i4 : ∀ a, (![0, o] : Fin 2 → ℕ) a + (![512, 256] : Fin 2 → ℕ) a ≤ S512x2048.size a) (z : S512x2048.Idx)
    (h1 : o ≤ (z 1).val) (h2 : (z 1).val < o + 256) : z ∈ (Rect.unit (s := S512x2048) ![0, o] ![512, 256] i4).set := by
  rw [Rect.mem_set_unit]
  intro a
  match a with
  | ⟨0, _⟩ => exact ⟨Nat.zero_le _, by show (z 0).val < 0 + 512; have : (z 0).val < 512 := (z 0).isLt; omega⟩
  | ⟨1, _⟩ => exact ⟨h1, h2⟩

section

variable (c : Dev nD) (i : grid0.Coords) (a1 : Memref sig .tc .vmem S512x3072 .fp8e4m3) (h1 : a1.IsWhole)
    (a2 : Memref sig .tc .vmem S512x1 .f32) (h2 : a2.IsWhole) (a3 : Memref sig .tc .vmem S3072x2048 .fp8e4m3) (h3 : a3.IsWhole)
    (a4 : Memref sig .tc .vmem S1x2048 .f32) (h4 : a4.IsWhole) (a5 : Memref sig .tc .vmem S1x2048 .bf16) (h5 : a5.IsWhole)
    (a6 : Memref sig .tc .vmem S512x2048 .fp8e4m3) (h6 : a6.IsWhole) (a7 : Memref sig .tc .vmem S512x1 .f32) (h7 : a7.IsWhole)
    (a8 : Memref sig .tc .vmem S512x2048 .f32) (h8 : a8.IsWhole)

/-- The second output block: the row's scale. -/
theorem out6_apply (r : Fin 512) :
    out0_A_6 c i a1 h1 a2 h2 a3 h3 a4 h4 a5 h5 a6 h6 a7 h7 a8 h8 x xs w ws b (ix2 r 0) = Spec.YS x xs w ws b r := by
  unfold out0_A_6
  rw [View.read_writes_eq_canon _ _ _ (cover0_A_6 c i a1 h1 a2 h2 a3 h3 a4 h4 a5 h5 a6 h6 a7 h7 a8 h8 x xs w ws b)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x3072) hz, View.ld_unit_zero (S := S512x1) hz]
  rw [pay1_apply, expo_apply]
  refine congrArg (fun v => Scale.word (IntOp.addi 127#32 (Scale.expo (v * Ideal.ofBits .f32 0x3B124925#32)))) ?_
  refine (lanes_apply x xs _ _ _ _ _ _ _ _ _ _ _ _ _ _ _ _ _ _ _ _ _ _ _ _ r (rowOf x xs w ws b r)
    (block_rowOf x xs w ws b 0 0 rfl (by omega) _ _ _ r) (block_rowOf x xs w ws b 256 1 rfl (by omega) _ _ _ r)
    (block_rowOf x xs w ws b 512 2 rfl (by omega) _ _ _ r) (block_rowOf x xs w ws b 768 3 rfl (by omega) _ _ _ r)
    (block_rowOf x xs w ws b 1024 4 rfl (by omega) _ _ _ r) (block_rowOf x xs w ws b 1280 5 rfl (by omega) _ _ _ r)
    (block_rowOf x xs w ws b 1536 6 rfl (by omega) _ _ _ r) (block_rowOf x xs w ws b 1792 7 rfl (by omega) _ _ _ r)).trans ?_
  exact rowmax_rowOf x xs w ws b r

/-- The first output block: the clipped product of the activation with the row's inverse scale. -/
theorem out5_apply (r : Fin 512) (k : Fin 2048) :
    out0_A_5 c i a1 h1 a2 h2 a3 h3 a4 h4 a5 h5 a6 h6 a7 h7 a8 h8 x xs w ws b (ix2 r k) = Spec.Y x xs w ws b r k := by
  unfold out0_A_5
  rw [View.read_writes_eq_canon _ _ _ (cover0_A_5 c i a1 h1 a2 h2 a3 h3 a4 h4 a5 h5 a6 h6 a7 h7 a8 h8 x xs w ws b)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x3072) hz, View.ld_unit_zero (S := S512x1) hz]
  rw [pay2_apply, expo_apply]
  have hmax := lanes_apply x xs _ _ _ _ _ _ _ _ _ _ _ _ _ _ _ _ _ _ _ _ _ _ _ _ r (rowOf x xs w ws b r)
    (block_rowOf x xs w ws b 0 0 rfl (by omega) inb_S3072x2048_S3072x256_0_0 inb_S1x2048_S1x256_0_0 inb_S1x2048_S1x256_0_0 r)
    (block_rowOf x xs w ws b 256 1 rfl (by omega) inb_S3072x2048_S3072x256_0_256 inb_S1x2048_S1x256_0_256 inb_S1x2048_S1x256_0_256 r)
    (block_rowOf x xs w ws b 512 2 rfl (by omega) inb_S3072x2048_S3072x256_0_512 inb_S1x2048_S1x256_0_512 inb_S1x2048_S1x256_0_512 r)
    (block_rowOf x xs w ws b 768 3 rfl (by omega) inb_S3072x2048_S3072x256_0_768 inb_S1x2048_S1x256_0_768 inb_S1x2048_S1x256_0_768 r)
    (block_rowOf x xs w ws b 1024 4 rfl (by omega) inb_S3072x2048_S3072x256_0_1024 inb_S1x2048_S1x256_0_1024 inb_S1x2048_S1x256_0_1024 r)
    (block_rowOf x xs w ws b 1280 5 rfl (by omega) inb_S3072x2048_S3072x256_0_1280 inb_S1x2048_S1x256_0_1280 inb_S1x2048_S1x256_0_1280 r)
    (block_rowOf x xs w ws b 1536 6 rfl (by omega) inb_S3072x2048_S3072x256_0_1536 inb_S1x2048_S1x256_0_1536 inb_S1x2048_S1x256_0_1536 r)
    (block_rowOf x xs w ws b 1792 7 rfl (by omega) inb_S3072x2048_S3072x256_0_1792 inb_S1x2048_S1x256_0_1792 inb_S1x2048_S1x256_0_1792 r)
  rw [rowmax_rowOf x xs w ws b r] at hmax
  unfold Spec.Y
  refine congrArg (min _) (congrArg (max _) ?_)
  refine congrArg₂ (· * ·) ?_ (congrArg (fun v => Scale.word (IntOp.subi 127#32 (Scale.expo (v * Ideal.ofBits .f32 0x3B124925#32)))) hmax)
  rw [View.readCov_eq_canon']
  refine (View.canon_apply_of_pieces (fun z : S512x2048.Idx => Spec.act x xs w ws b (z 0) (z 1)) _ ?_ _ ?_).trans ?_
  · simp only [List.forall_mem_cons, List.not_mem_nil, false_imp_iff, implies_true, and_true]
    refine ⟨fun y => ?_, fun y => ?_, fun y => ?_, fun y => ?_, fun y => ?_, fun y => ?_, fun y => ?_, fun y => ?_⟩
    · exact (congrFun (pay30_eq ..) y).trans (piece_act x xs w ws b 1792 (by omega) _ _ _ _ y)
    · exact (congrFun (pay28_eq ..) y).trans (piece_act x xs w ws b 1536 (by omega) _ _ _ _ y)
    · exact (congrFun (pay25_eq ..) y).trans (piece_act x xs w ws b 1280 (by omega) _ _ _ _ y)
    · exact (congrFun (pay21_eq ..) y).trans (piece_act x xs w ws b 1024 (by omega) _ _ _ _ y)
    · exact (congrFun (pay18_eq ..) y).trans (piece_act x xs w ws b 768 (by omega) _ _ _ _ y)
    · exact (congrFun (pay16_eq ..) y).trans (piece_act x xs w ws b 512 (by omega) _ _ _ _ y)
    · exact (congrFun (pay11_eq ..) y).trans (piece_act x xs w ws b 256 (by omega) _ _ _ _ y)
    · exact (congrFun (pay6_eq ..) y).trans (piece_act x xs w ws b 0 (by omega) _ _ _ _ y)
  · generalize (Rect.unit (s := S512x2048) ![0, 0] ![512, 2048] inb_S512x2048_S512x2048_0_0).toLoadRect.idx (ix2 r k) = z
    have hz1 : (z 1).val < 2048 := (z 1).isLt
    simp only [List.exists_mem_cons_iff]
    rcases Nat.lt_or_ge (z 1).val 256 with h | h
    · exact .inr (.inr (.inr (.inr (.inr (.inr (.inr (.inl (mem_cols 0 _ z (by omega) (by omega)))))))))
    rcases Nat.lt_or_ge (z 1).val 512 with h | h
    · exact .inr (.inr (.inr (.inr (.inr (.inr (.inl (mem_cols 256 _ z (by omega) (by omega))))))))
    rcases Nat.lt_or_ge (z 1).val 768 with h | h
    · exact .inr (.inr (.inr (.inr (.inr (.inl (mem_cols 512 _ z (by omega) (by omega)))))))
    rcases Nat.lt_or_ge (z 1).val 1024 with h | h
    · exact .inr (.inr (.inr (.inr (.inl (mem_cols 768 _ z (by omega) (by omega))))))
    rcases Nat.lt_or_ge (z 1).val 1280 with h | h
    · exact .inr (.inr (.inr (.inl (mem_cols 1024 _ z (by omega) (by omega)))))
    rcases Nat.lt_or_ge (z 1).val 1536 with h | h
    · exact .inr (.inr (.inl (mem_cols 1280 _ z (by omega) (by omega))))
    rcases Nat.lt_or_ge (z 1).val 1792 with h | h
    · exact .inr (.inl (mem_cols 1536 _ z (by omega) (by omega)))
    · exact .inl (mem_cols 1792 _ z (by omega) (by omega))
  · have e0 : ((Rect.unit (s := S512x2048) ![0, 0] ![512, 2048] inb_S512x2048_S512x2048_0_0).toLoadRect.idx (ix2 r k)) 0 = r :=
      Fin.ext (by show 0 + 1 * r.val = r.val; omega)
    have e1 : ((Rect.unit (s := S512x2048) ![0, 0] ![512, 2048] inb_S512x2048_S512x2048_0_0).toLoadRect.idx (ix2 r k)) 1 = k :=
      Fin.ext (by show 0 + 1 * k.val = k.val; omega)
    exact congrArg₂ (Spec.act x xs w ws b) e0 e1

end

end Cert.KernelIdeal.RefValue
-- ==== Proof.KernelValue.lean ====
/-
  The kernel's run read as values (ideal instance): every grid point writes its 512 rows of the two results, the blocks tile
  the arrays, and the arrays end holding `Spec.Y` and `Spec.YS` of the whole operands.
-/
module

public import proofs.«01_k».proof.Proof.KernelBlocks
public import Idealize.ShloMosaic.Lib.Pipeline.Value
public import Idealize.ShloMosaic.Lib.StableHlo.Run
public import Idealize.ShloMosaic.Lib.Tactic
public import Idealize.ShloMosaic.Lib.Quiescent

@[expose] public section

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (m : (ℓ : Loc nD τ sig) → Buf (Elt Ideal) ℓ) (ρ : Dev nD → PrngReg) (c : Dev nD)

/-- The operands the region finds: the activations, their row scales, the matrix, its column scales, the bias. -/
abbrev opX : Vec Ideal S16384x3072 .fp8e4m3 := V m c main_v0
abbrev opXs : Vec Ideal S16384x1 .f32 := V m c main_v1
abbrev opW : Vec Ideal S3072x2048 .fp8e4m3 := V m c main_arg2
abbrev opWs : Vec Ideal S1x2048 .f32 := V m c main_v2
abbrev opB : Vec Ideal S1x2048 .bf16 := V m c main_v3

/-- The first result array. -/
def resultY : S16384x2048.Idx → EReal := fun z => Spec.Y (opX m c) (opXs m c) (opW m c) (opWs m c) (opB m c) (z 0) (z 1)

/-- The second result array. -/
def resultYS : S16384x1.Idx → EReal := fun z => Spec.YS (opX m c) (opXs m c) (opW m c) (opWs m c) (opB m c) (z 0)

/-- Row `r` of point `t`'s block is row `512 t + r` of the array. -/
def rowAt (t : Fin cfg0.N) (r : Fin 512) : Fin 16384 :=
  ⟨512 * t.val + r.val, by have := t.isLt; have h : cfg0.N = 32 := N_0; omega⟩

/-- The block indices of the row windows at a point. -/
theorem idx_rows (t : Fin cfg0.N) : (win0_0.index t 0 = t.val ∧ win0_0.index t 1 = 0) ∧ (win0_1.index t 0 = t.val ∧ win0_1.index t 1 = 0)
    ∧ (win0_5.index t 0 = t.val ∧ win0_5.index t 1 = 0) ∧ (win0_6.index t 0 = t.val ∧ win0_6.index t 1 = 0) :=
  (by decide +kernel : ∀ t : Fin grid0.N, (win0_0.index t 0 = t.val ∧ win0_0.index t 1 = 0) ∧ (win0_1.index t 0 = t.val ∧ win0_1.index t 1 = 0)
    ∧ (win0_5.index t 0 = t.val ∧ win0_5.index t 1 = 0) ∧ (win0_6.index t 0 = t.val ∧ win0_6.index t 1 = 0)) t

/-- The windows of the matrix, its scales and the bias stay at block zero. -/
theorem idx_whole (t : Fin cfg0.N) : (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0)) t

/-- The activations' block at a point. -/
theorem blk_x (t : Fin cfg0.N) (r : Fin 512) (k : Fin 3072) : (iblk m c 0 t : S512x3072.Idx → EReal) (ix2 r k) = opX m c (ix2 (rowAt t r) k) := by
  unfold iblk
  rw [View.read_apply]
  show V m c main_v0 _ = V m c main_v0 _
  congr 1
  funext a
  apply Fin.ext
  match a with
  | ⟨0, _⟩ => show win0_0.index t 0 * 512 + 1 * r.val = 512 * t.val + r.val; rw [(idx_rows t).1.1]; omega
  | ⟨1, _⟩ => show win0_0.index t 1 * 3072 + 1 * k.val = k.val; rw [(idx_rows t).1.2]; omega

/-- The row scales' block at a point. -/
theorem blk_xs (t : Fin cfg0.N) (r : Fin 512) : (iblk m c 1 t : S512x1.Idx → EReal) (ix2 r 0) = opXs m c (ix2 (rowAt t r) 0) := by
  unfold iblk
  rw [View.read_apply]
  show V m c main_v1 _ = V m c main_v1 _
  congr 1
  funext a
  apply Fin.ext
  match a with
  | ⟨0, _⟩ => show win0_1.index t 0 * 512 + 1 * r.val = 512 * t.val + r.val; rw [(idx_rows t).2.1.1]; omega
  | ⟨1, _⟩ => show win0_1.index t 1 * 1 + 1 * 0 = 0; rw [(idx_rows t).2.1.2]

/-- The matrix's block is the matrix. -/
theorem blk_w (t : Fin cfg0.N) : (iblk m c 2 t : S3072x2048.Idx → EReal) = opW m c := by
  funext j
  unfold iblk
  rw [View.read_apply]
  show V m c main_arg2 _ = V m c main_arg2 _
  congr 1
  funext a
  apply Fin.ext
  match a with
  | ⟨0, _⟩ => show win0_2.index t 0 * 3072 + 1 * (j 0).val = (j 0).val; rw [(idx_whole t).1.1]; omega
  | ⟨1, _⟩ => show win0_2.index t 1 * 2048 + 1 * (j 1).val = (j 1).val; rw [(idx_whole t).1.2]; omega

/-- The column scales' block is the whole row. -/
theorem blk_ws (t : Fin cfg0.N) : (iblk m c 3 t : S1x2048.Idx → EReal) = opWs m c := by
  funext j
  unfold iblk
  rw [View.read_apply]
  show V m c main_v2 _ = V m c main_v2 _
  congr 1
  funext a
  apply Fin.ext
  match a with
  | ⟨0, _⟩ => show win0_3.index t 0 * 1 + 1 * (j 0).val = (j 0).val; rw [(idx_whole t).2.1.1]; omega
  | ⟨1, _⟩ => show win0_3.index t 1 * 2048 + 1 * (j 1).val = (j 1).val; rw [(idx_whole t).2.1.2]; omega

/-- The bias's block is the whole row. -/
theorem blk_b (t : Fin cfg0.N) : (iblk m c 4 t : S1x2048.Idx → EReal) = opB m c := by
  funext j
  unfold iblk
  rw [View.read_apply]
  show V m c main_v3 _ = V m c main_v3 _
  congr 1
  funext a
  apply Fin.ext
  match a with
  | ⟨0, _⟩ => show win0_4.index t 0 * 1 + 1 * (j 0).val = (j 0).val; rw [(idx_whole t).2.2.1]; omega
  | ⟨1, _⟩ => show win0_4.index t 1 * 2048 + 1 * (j 1).val = (j 1).val; rw [(idx_whole t).2.2.2]; omega

/-- A block row's activation is the array row's. -/
theorem act_blk (t : Fin cfg0.N) (r : Fin 512) :
    Spec.act (iblk m c 0 t : S512x3072.Idx → EReal) (iblk m c 1 t : S512x1.Idx → EReal) (iblk m c 2 t : S3072x2048.Idx → EReal)
      (iblk m c 3 t : S1x2048.Idx → EReal) (iblk m c 4 t : S1x2048.Idx → EReal) r
    = Spec.act (opX m c) (opXs m c) (opW m c) (opWs m c) (opB m c) (rowAt t r) :=
  Spec.act_congr (blk_x m c t r) (blk_xs m c t r) (blk_w m c t) (blk_ws m c t) (blk_b m c t)

/-- A point writes back its rows of the first result. -/
theorem flushed5_eq (t : Fin cfg0.N) :
    (dats m 0 c).flushed 5 t = ((cfg0.win 5).blk t).view.read (Elt Ideal) (resultY m c) := by
  rw [Value.flushed5_A]
  funext y
  obtain ⟨r, k, rfl⟩ : ∃ (r : Fin 512) (k : Fin 2048), y = ix2 r k := ⟨y 0, y 1, eq_ix2 y⟩
  refine (out5_apply (iblk m c 0 t) (iblk m c 1 t) (iblk m c 2 t) (iblk m c 3 t) (iblk m c 4 t) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) r k).trans ?_
  rw [View.read_apply]
  have e : (((cfg0.win 5).blk t).view.emb (ix2 r k) : S16384x2048.Idx) = ix2 (rowAt t r) k := by
    funext a
    apply Fin.ext
    match a with
    | ⟨0, _⟩ => show win0_5.index t 0 * 512 + 1 * r.val = 512 * t.val + r.val; rw [(idx_rows t).2.2.1.1]; omega
    | ⟨1, _⟩ => show win0_5.index t 1 * 2048 + 1 * k.val = k.val; rw [(idx_rows t).2.2.1.2]; omega
  refine Eq.trans ?_ (congrArg (resultY m c) e).symm
  show Spec.Y _ _ _ _ _ r k = Spec.Y _ _ _ _ _ (rowAt t r) k
  unfold Spec.Y
  rw [Spec.level_congr (act_blk m c t r), act_blk m c t r]

/-- A point writes back its rows of the second result. -/
theorem flushed6_eq (t : Fin cfg0.N) :
    (dats m 0 c).flushed 6 t = ((cfg0.win 6).blk t).view.read (Elt Ideal) (resultYS m c) := by
  rw [Value.flushed6_A]
  funext y
  obtain ⟨r, rfl⟩ : ∃ r : Fin 512, y = ix2 r 0 :=
    ⟨y 0, (eq_ix2 y).trans (congrArg (ix2 (y 0)) (Fin.ext (by have h : (y 1).val < 1 := (y 1).isLt; show (y 1).val = 0; omega)))⟩
  refine (out6_apply (iblk m c 0 t) (iblk m c 1 t) (iblk m c 2 t) (iblk m c 3 t) (iblk m c 4 t) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) r).trans ?_
  rw [View.read_apply]
  have e : (((cfg0.win 6).blk t).view.emb (ix2 r 0) : S16384x1.Idx) = ix2 (rowAt t r) 0 := by
    funext a
    apply Fin.ext
    match a with
    | ⟨0, _⟩ => show win0_6.index t 0 * 512 + 1 * r.val = 512 * t.val + r.val; rw [(idx_rows t).2.2.2.1]; omega
    | ⟨1, _⟩ => show win0_6.index t 1 * 1 + 1 * 0 = 0; rw [(idx_rows t).2.2.2.2]
  refine Eq.trans ?_ (congrArg (resultYS m c) e).symm
  show Spec.YS _ _ _ _ _ r = Spec.YS _ _ _ _ _ (rowAt t r)
  unfold Spec.YS
  rw [Spec.level_congr (act_blk m c t r)]

/-- The point that writes a row. -/
def pointOf (r : Fin 16384) : Fin cfg0.N := ⟨r.val / 512, by have h : cfg0.N = 32 := N_0; omega⟩

/-- The first result array after the run. -/
theorem final5 : (dats m 0 c).arrAt 5 cfg0.N = resultY m c :=
  (dats m 0 c).arrAt_eq_of_cover 5 (resultY m c) (fun t _ => flushed5_eq m c t) fun i =>
    ⟨pointOf (i 0), flush0_5 _, by
      show i ∈ ((View.whole main_v4_0).slice (win0_5.rect (pointOf (i 0)))).set
      rw [View.set_slice_whole, Rect.mem_set_unit]
      intro a
      have h0 : (i 0 : Nat) < 16384 := (i 0).isLt
      have h1 : (i 1 : Nat) < 2048 := (i 1).isLt
      match a with
      | ⟨0, _⟩ =>
        show win0_5.index (pointOf (i 0)) 0 * 512 ≤ (i 0 : Nat) ∧ (i 0 : Nat) < win0_5.index (pointOf (i 0)) 0 * 512 + 512
        rw [(idx_rows (pointOf (i 0))).2.2.1.1]
        show (i 0 : Nat) / 512 * 512 ≤ (i 0 : Nat) ∧ (i 0 : Nat) < (i 0 : Nat) / 512 * 512 + 512
        omega
      | ⟨1, _⟩ =>
        show win0_5.index (pointOf (i 0)) 1 * 2048 ≤ (i 1 : Nat) ∧ (i 1 : Nat) < win0_5.index (pointOf (i 0)) 1 * 2048 + 2048
        rw [(idx_rows (pointOf (i 0))).2.2.1.2]
        omega⟩

/-- The second result array after the run. -/
theorem final6 : (dats m 0 c).arrAt 6 cfg0.N = resultYS m c :=
  (dats m 0 c).arrAt_eq_of_cover 6 (resultYS m c) (fun t _ => flushed6_eq m c t) fun i =>
    ⟨pointOf (i 0), flush0_6 _, by
      show i ∈ ((View.whole main_v4_1).slice (win0_6.rect (pointOf (i 0)))).set
      rw [View.set_slice_whole, Rect.mem_set_unit]
      intro a
      have h0 : (i 0 : Nat) < 16384 := (i 0).isLt
      have h1 : (i 1 : Nat) < 1 := (i 1).isLt
      match a with
      | ⟨0, _⟩ =>
        show win0_6.index (pointOf (i 0)) 0 * 512 ≤ (i 0 : Nat) ∧ (i 0 : Nat) < win0_6.index (pointOf (i 0)) 0 * 512 + 512
        rw [(idx_rows (pointOf (i 0))).2.2.2.1]
        show (i 0 : Nat) / 512 * 512 ≤ (i 0 : Nat) ∧ (i 0 : Nat) < (i 0 : Nat) / 512 * 512 + 512
        omega
      | ⟨1, _⟩ =>
        show win0_6.index (pointOf (i 0)) 1 * 1 ≤ (i 1 : Nat) ∧ (i 1 : Nat) < win0_6.index (pointOf (i 0)) 1 * 1 + 1
        rw [(idx_rows (pointOf (i 0))).2.2.2.2]
        omega⟩

end Cert.KernelIdeal.RefValue
-- ==== Proof.RefBlock.lean ====
/-
  The reference's body read at an index (ideal instance): its activation is `Spec.act` of the whole arrays, its exponent
  `Scale.rexpo` of the row's level, so by `Scale.scale_eq` its two results are `Spec.Y` and `Spec.YS` too.
-/
module

public import proofs.«01_k».proof.Proof.Spec
public import proofs.«01_k».proof.Proof.Gen.ReferenceIdeal.Skeleton
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.ReduceUnfold
public import Idealize.ShloMosaic.Lib.Pointwise.Blocks
public import Idealize.ShloMosaic.Lib.Pipeline.Value
public import Idealize.ShloMosaic.Lib.Tactic

@[expose] public section

noncomputable section

open Idealize.ShloMosaic

namespace Cert.ReferenceIdeal.RefValue

open Cert.ReferenceIdeal Cert.ReferenceIdeal.Gen

variable (x : Vec Ideal S16384x3072 .fp8e4m3) (w : Vec Ideal S3072x2048 .fp8e4m3) (xs : Vec Ideal S16384x1 .f32)
  (ws : Vec Ideal S1x2048 .f32) (b : Vec Ideal S1x2048 .bf16)

theorem ofBits_bot : Ideal.ofBits .f32 0xFF800000#32 = ⊥ := by
  simp [Ideal.ofBits, Ideal.ieee]

/-- The activation at an index. -/
theorem pay4_apply (r : Fin 16384) (c : Fin 2048) : k0_pay4 x w xs ws b (ix2 r c) = Spec.act x xs w ws b r c := by
  pointwise [k0_pay4]
  rfl

/-- The largest entry of a row. -/
theorem rowmax_apply (v : FVec Ideal S16384x2048 .f32) (r : Fin 16384) :
    multiReduction .maximumf [1] S16384 v 0xFF800000#32 reduces_S16384x2048_S16384 (.inl rfl) rfl (ix1 r)
      = Finset.univ.fold max (Ideal.ofBits .f32 0xFF800000#32) fun c : Fin 2048 => v (ix2 r c) := by
  pointwise []

/-- A list of rows laid out as a column. -/
theorem column_apply (v : FVec Ideal S16384 .f32) (r : Fin 16384) :
    shapeCast S16384x1 v shapeCasts_S16384_S16384x1 (ix2 r 0) = v (ix1 r) := by
  pointwise []

/-- A column times a constant. -/
theorem scaled_apply (u : FVec Ideal S16384x1 .f32) (n : BitVec 32) (i : S16384x1.Idx) :
    mulf u (broadcast S16384x1 (Scalar.ofBits .f32 n)) i = u i * Ideal.ofBits .f32 n := rfl

/-- The largest absolute value of a row times 1/448, for any array. -/
theorem amax_apply (g : FVec Ideal S16384x2048 .f32) (r : Fin 16384) :
    mulf (shapeCast S16384x1 (multiReduction .maximumf [1] S16384 (absf g) 0xFF800000#32 reduces_S16384x2048_S16384 (.inl rfl) rfl)
        shapeCasts_S16384_S16384x1) (broadcast S16384x1 (Scalar.ofBits .f32 0x3B124925#32)) (ix2 r 0)
      = (Finset.univ.fold max ⊥ fun c : Fin 2048 => max (g (ix2 r c)) (-g (ix2 r c))) * Ideal.ofBits .f32 0x3B124925#32 := by
  have h := rowmax_apply (absf g) r
  generalize multiReduction .maximumf [1] S16384 (absf g) 0xFF800000#32 reduces_S16384x2048_S16384 (.inl rfl) rfl = u at h ⊢
  rw [scaled_apply, column_apply, h, ofBits_bot]
  rfl

/-- The row's level. -/
theorem pay5_apply (r : Fin 16384) : k0_pay5 x w xs ws b (ix2 r 0) = Spec.level x xs w ws b r := by
  unfold k0_pay5 Spec.level Spec.mag
  refine (amax_apply (k0_pay4 x w xs ws b) r).trans ?_
  simp only [pay4_apply]

/-- The candidates for the exponent, for any column of levels: the lane's integer where two to it is above the level, 126 elsewhere. -/
theorem candidates_apply (v : FVec Ideal S16384x1 .f32) (r : Fin 16384) (k : Fin 252) :
    select (cmpf .ogt (broadcastTo S16384x252 (exp2 (subf (sitofp .f32 (iota .tc S1x252 32 [1] iota_S1x252_d1_w32))
          (broadcast S1x252 (Scalar.ofBits .f32 0x42FA0000#32)))) broadcasts_S1x252_S16384x252)
        (broadcastTo S16384x252 v broadcasts_S16384x1_S16384x252))
      (broadcastTo S16384x252 (shapeCast S1x252 (subf (sitofp .f32 (iota .tc S1x252 32 [1] iota_S1x252_d1_w32))
          (broadcast S1x252 (Scalar.ofBits .f32 0x42FA0000#32))) shapeCasts_S1x252_S1x252) broadcasts_S1x252_S16384x252)
      (broadcast S16384x252 (Scalar.ofBits (F := Ideal) .f32 0x42FC0000#32)) (ix2 r k)
    = Scalar.select (Ideal.cmp .ogt (Ideal.exp2 (Scale.kk k)) (v (ix2 r 0))) (Scale.kk k) (Ideal.ofBits .f32 0x42FC0000#32) := by
  pointwise []
  rfl

theorem pay6_apply (r : Fin 16384) (k : Fin 252) : k0_pay6 x w xs ws b (ix2 r k)
    = Scalar.select (Ideal.cmp .ogt (Ideal.exp2 (Scale.kk k)) (Spec.level x xs w ws b r)) (Scale.kk k) (Ideal.ofBits .f32 0x42FC0000#32) := by
  unfold k0_pay6
  refine (candidates_apply (k0_pay5 x w xs ws b) r k).trans ?_
  rw [pay5_apply]

/-- The exponent, for any levels and candidates: the least candidate, zero below the least normal number. -/
theorem pay1_apply (v : FVec Ideal S16384x1 .f32) (W : FVec Ideal S16384x252 .f32) (r : Fin 16384) :
    k0_pay1 v W (ix2 r 0) = Scalar.select (Ideal.cmp .olt (v (ix2 r 0)) (Ideal.ofBits .f32 0x00800000#32)) (Ideal.ofBits .f32 0x00000000#32)
      (Finset.univ.fold min (Ideal.ofBits .f32 0x7F800000#32) fun k : Fin 252 => W (ix2 r k)) := by
  rw [Ideal.ofBits_zero_f32]
  pointwise [k0_pay1]
  rfl

/-- The reference's exponent at a row. -/
theorem exponent_apply (r : Fin 16384) :
    k0_pay1 (k0_pay5 x w xs ws b) (k0_pay6 x w xs ws b) (ix2 r 0) = Scale.rexpo (Spec.level x xs w ws b r) := by
  rw [pay1_apply, pay5_apply]
  simp only [pay6_apply]
  rfl

theorem pay2_apply (v : FVec Ideal S16384x1 .f32) (W : FVec Ideal S16384x252 .f32) (r : Fin 16384) :
    k0_pay2 v W (ix2 r 0) = Ideal.exp2 (k0_pay1 v W (ix2 r 0)) := rfl

/-- The first result for any activation, levels and candidates. -/
theorem pay3_apply (g : FVec Ideal S16384x2048 .f32) (v : FVec Ideal S16384x1 .f32) (W : FVec Ideal S16384x252 .f32) (r : Fin 16384)
    (c : Fin 2048) : k0_pay3 g v W (ix2 r c) = min (Ideal.ofBits .f32 0x43E00000#32) (max (Ideal.ofBits .f32 0xC3E00000#32)
      (g (ix2 r c) * Ideal.exp2 (Ideal.ofBits .f32 0x00000000#32 - k0_pay1 v W (ix2 r 0)))) := by
  rw [Ideal.ofBits_zero_f32]
  unfold k0_pay3
  generalize k0_pay1 v W = e
  pointwise []
  rfl

/-- The reference's second result is the row's scale. -/
theorem ys_apply (r : Fin 16384) :
    k0_pay2 (k0_pay5 x w xs ws b) (k0_pay6 x w xs ws b) (ix2 r 0) = Spec.YS x xs w ws b r := by
  rw [pay2_apply, exponent_apply]
  exact (Scale.scale_eq (Spec.level_nonneg x xs w ws b r)).1.symm

/-- The reference's first result is the clipped product of the activation with the row's inverse scale. -/
theorem y_apply (r : Fin 16384) (c : Fin 2048) :
    k0_pay3 (k0_pay4 x w xs ws b) (k0_pay5 x w xs ws b) (k0_pay6 x w xs ws b) (ix2 r c) = Spec.Y x xs w ws b r c := by
  rw [pay3_apply, exponent_apply, pay4_apply, ← (Scale.scale_eq (Spec.level_nonneg x xs w ws b r)).2]
  rfl

end Cert.ReferenceIdeal.RefValue
-- ==== Proof.RefValue.lean ====
/-
  The reference's run read as values (ideal instance): its one block of every operand is the operand, and its two result
  arrays end holding `Spec.Y` and `Spec.YS` of the whole operands.
-/
module

public import proofs.«01_k».proof.Proof.RefBlock
public import proofs.«01_k».proof.Proof.Gen.ReferenceIdeal.Value
public import Idealize.ShloMosaic.Lib.Pipeline.Value
public import Idealize.ShloMosaic.Lib.StableHlo.Run
public import Idealize.ShloMosaic.Lib.Tactic
public import Idealize.ShloMosaic.Lib.Quiescent

@[expose] public section

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

theorem hz : (![0, 0] : Fin 2 → Nat) = fun _ => 0 := funext fun a => by fin_cases a <;> rfl

section

variable (x : Vec Ideal S16384x3072 .fp8e4m3) (xs : Vec Ideal S16384x1 .f32) (w : Vec Ideal S3072x2048 .fp8e4m3)
  (ws : Vec Ideal S1x2048 .f32) (b : Vec Ideal S1x2048 .bf16)

/-- The first output buffer after the body. -/
theorem out5_apply (r : Fin 16384) (k : Fin 2048) : out0_5 x xs w ws b (ix2 r k) = Spec.Y x xs w ws b r k := by
  unfold out0_5 k0_pay7 k0_pay8
  rw [View.canon_unit_zero hz, View.ld_unit_zero (S := S16384x3072) hz, View.ld_unit_zero (S := S3072x2048) hz,
    View.ld_unit_zero (S := S16384x1) hz, View.ld_unit_zero (S := S1x2048) hz, View.ld_unit_zero (S := S1x2048) hz]
  exact y_apply x w xs ws b r k

/-- The second output buffer after the body. -/
theorem out6_apply (r : Fin 16384) : out0_6 x xs w ws b (ix2 r 0) = Spec.YS x xs w ws b r := by
  unfold out0_6 k0_pay7 k0_pay8
  rw [View.canon_unit_zero hz, View.ld_unit_zero (S := S16384x3072) hz, View.ld_unit_zero (S := S3072x2048) hz,
    View.ld_unit_zero (S := S16384x1) hz, View.ld_unit_zero (S := S1x2048) hz, View.ld_unit_zero (S := S1x2048) hz]
  exact ys_apply x w xs ws b r

end

variable (m : (ℓ : Loc nD τ sig) → Buf (Elt Ideal) ℓ) (ρ : Dev nD → PrngReg) (c : Dev nD)

/-- The operands the region finds: the activations, their row scales, the matrix, its column scales, the bias. -/
abbrev opX : Vec Ideal S16384x3072 .fp8e4m3 := V m c main_v0
abbrev opXs : Vec Ideal S16384x1 .f32 := V m c main_v1
abbrev opW : Vec Ideal S3072x2048 .fp8e4m3 := V m c main_arg2
abbrev opWs : Vec Ideal S1x2048 .f32 := V m c main_v2
abbrev opB : Vec Ideal S1x2048 .bf16 := V m c main_v3

/-- The first result array. -/
def resultY : S16384x2048.Idx → EReal := fun z => Spec.Y (opX m c) (opXs m c) (opW m c) (opWs m c) (opB m c) (z 0) (z 1)

/-- The second result array. -/
def resultYS : S16384x1.Idx → EReal := fun z => Spec.YS (opX m c) (opXs m c) (opW m c) (opWs m c) (opB m c) (z 0)

/-- Every operand's one block is the operand. -/
theorem blk_x (t : Fin cfg0.N) : (iblk m c 0 t : S16384x3072.Idx → EReal) = opX m c := by
  unfold iblk
  exact Memref.read_access_unit_zero (Elt Ideal) main_v0 (funext fun a => Nat.zero_mul _) (fun a => by simp) (V m c main_v0)
theorem blk_xs (t : Fin cfg0.N) : (iblk m c 1 t : S16384x1.Idx → EReal) = opXs m c := by
  unfold iblk
  exact Memref.read_access_unit_zero (Elt Ideal) main_v1 (funext fun a => Nat.zero_mul _) (fun a => by simp) (V m c main_v1)
theorem blk_w (t : Fin cfg0.N) : (iblk m c 2 t : S3072x2048.Idx → EReal) = opW m c := by
  unfold iblk
  exact Memref.read_access_unit_zero (Elt Ideal) main_arg2 (funext fun a => Nat.zero_mul _) (fun a => by simp) (V m c main_arg2)
theorem blk_ws (t : Fin cfg0.N) : (iblk m c 3 t : S1x2048.Idx → EReal) = opWs m c := by
  unfold iblk
  exact Memref.read_access_unit_zero (Elt Ideal) main_v2 (funext fun a => Nat.zero_mul _) (fun a => by simp) (V m c main_v2)
theorem blk_b (t : Fin cfg0.N) : (iblk m c 4 t : S1x2048.Idx → EReal) = opB m c := by
  unfold iblk
  exact Memref.read_access_unit_zero (Elt Ideal) main_v3 (funext fun a => Nat.zero_mul _) (fun a => by simp) (V m c main_v3)

/-- The one point writes back the first result. -/
theorem flushed5_eq (t : Fin cfg0.N) :
    (dats m 0 c).flushed 5 t = ((cfg0.win 5).blk t).view.read (Elt Ideal) (resultY m c) := by
  rw [Value.flushed5, blk_x, blk_xs, blk_w, blk_ws, blk_b]
  refine Eq.trans ?_ (Memref.read_access_unit_zero (Elt Ideal) main_v4_0 (funext fun a => Nat.zero_mul _) (fun a => by simp) (resultY m c)).symm
  funext y
  obtain ⟨r, k, rfl⟩ : ∃ (r : Fin 16384) (k : Fin 2048), y = ix2 r k := ⟨y 0, y 1, eq_ix2 y⟩
  exact out5_apply (opX m c) (opXs m c) (opW m c) (opWs m c) (opB m c) r k

/-- The one point writes back the second result. -/
theorem flushed6_eq (t : Fin cfg0.N) :
    (dats m 0 c).flushed 6 t = ((cfg0.win 6).blk t).view.read (Elt Ideal) (resultYS m c) := by
  rw [Value.flushed6, blk_x, blk_xs, blk_w, blk_ws, blk_b]
  refine Eq.trans ?_ (Memref.read_access_unit_zero (Elt Ideal) main_v4_1 (funext fun a => Nat.zero_mul _) (fun a => by simp) (resultYS m c)).symm
  funext y
  obtain ⟨r, rfl⟩ : ∃ r : Fin 16384, y = ix2 r 0 :=
    ⟨y 0, (eq_ix2 y).trans (congrArg (ix2 (y 0)) (Fin.ext (by have h : (y 1).val < 1 := (y 1).isLt; show (y 1).val = 0; omega)))⟩
  exact out6_apply (opX m c) (opXs m c) (opW m c) (opWs m c) (opB m c) r

/-- The grid's one point. -/
def point0 : Fin cfg0.N := ⟨0, by have h : cfg0.N = 1 := N_0; omega⟩

/-- The first result array after the run. -/
theorem final5 : (dats m 0 c).arrAt 5 cfg0.N = resultY m c :=
  (dats m 0 c).arrAt_eq_of_cover 5 (resultY m c) (fun t _ => flushed5_eq m c t) fun i =>
    ⟨point0, flush0_5 _, by
      show i ∈ ((View.whole main_v4_0).slice (win0_5.rect point0)).set
      rw [View.set_slice_whole, Rect.mem_set_unit]
      intro a
      have h0 : (i 0 : Nat) < 16384 := (i 0).isLt
      have h1 : (i 1 : Nat) < 2048 := (i 1).isLt
      match a with
      | ⟨0, _⟩ => show 0 * 16384 ≤ (i 0 : Nat) ∧ (i 0 : Nat) < 0 * 16384 + 16384; omega
      | ⟨1, _⟩ => show 0 * 2048 ≤ (i 1 : Nat) ∧ (i 1 : Nat) < 0 * 2048 + 2048; omega⟩

/-- The second result array after the run. -/
theorem final6 : (dats m 0 c).arrAt 6 cfg0.N = resultYS m c :=
  (dats m 0 c).arrAt_eq_of_cover 6 (resultYS m c) (fun t _ => flushed6_eq m c t) fun i =>
    ⟨point0, flush0_6 _, by
      show i ∈ ((View.whole main_v4_1).slice (win0_6.rect point0)).set
      rw [View.set_slice_whole, Rect.mem_set_unit]
      intro a
      have h0 : (i 0 : Nat) < 16384 := (i 0).isLt
      have h1 : (i 1 : Nat) < 1 := (i 1).isLt
      match a with
      | ⟨0, _⟩ => show 0 * 16384 ≤ (i 0 : Nat) ∧ (i 0 : Nat) < 0 * 16384 + 16384; omega
      | ⟨1, _⟩ => show 0 * 1 ≤ (i 1 : Nat) ∧ (i 1 : Nat) < 0 * 1 + 1; omega⟩

end Cert.ReferenceIdeal.RefValue
-- ==== Proof.Operands.lean ====
/-
  The operands both programs hand to their one region: the arguments, four of them reshaped first. The same reshapes of the
  same arguments on both sides, so equal arguments give equal operands and equal results.
-/
module

public import proofs.«01_k».proof.Proof.KernelValue
public import proofs.«01_k».proof.Proof.RefValue
public import Idealize.ShloMosaic.Lib.StableHlo.Run

@[expose] public section

noncomputable section

open Idealize.ShloMosaic Idealize.ShloMosaic.TcCoe Idealize.SL.Sem

namespace Cert.KernelIdeal.RefValue

open Cert.KernelIdeal Cert.KernelIdeal.Gen

variable (m : (ℓ : Loc nD τ sig) → Buf (Elt Ideal) ℓ) (c : Dev nD)

/-- Each operand is its argument, reshaped except for the matrix. -/
theorem opX_eq : opX m c = shapeCast S16384x3072 (m ((c : Thread nD τ).loc main_arg0)) shapeCasts_S2x8192x3072_S16384x3072 := by
  show StableHlo.after hostOps0 (fun b => m (c, b)) (Proc.devRef .tc main_v0) = _
  after_results
  rfl
theorem opXs_eq : opXs m c = shapeCast S16384x1 (m ((c : Thread nD τ).loc main_arg1)) shapeCasts_S2x8192x1_S16384x1 := by
  show StableHlo.after hostOps0 (fun b => m (c, b)) (Proc.devRef .tc main_v1) = _
  after_results
  rfl
theorem opWs_eq : opWs m c = shapeCast S1x2048 (m ((c : Thread nD τ).loc main_arg3)) shapeCasts_S2048_S1x2048 := by
  show StableHlo.after hostOps0 (fun b => m (c, b)) (Proc.devRef .tc main_v2) = _
  after_results
  rfl
theorem opB_eq : opB m c = shapeCast S1x2048 (m ((c : Thread nD τ).loc main_arg4)) shapeCasts_S2048_S1x2048 := by
  show StableHlo.after hostOps0 (fun b => m (c, b)) (Proc.devRef .tc main_v3) = _
  after_results
  rfl
theorem opW_eq : opW m c = m ((c : Thread nD τ).loc main_arg2) := V_main_arg2 m c

end Cert.KernelIdeal.RefValue

namespace Cert.ReferenceIdeal.RefValue

open Cert.ReferenceIdeal Cert.ReferenceIdeal.Gen

variable (m : (ℓ : Loc nD τ sig) → Buf (Elt Ideal) ℓ) (c : Dev nD)

/-- Each operand is its argument, reshaped except for the matrix. -/
theorem opX_eq : opX m c = shapeCast S16384x3072 (m ((c : Thread nD τ).loc main_arg0)) shapeCasts_S2x8192x3072_S16384x3072 := by
  show StableHlo.after hostOps0 (fun b => m (c, b)) (Proc.devRef .tc main_v0) = _
  after_results
  rfl
theorem opXs_eq : opXs m c = shapeCast S16384x1 (m ((c : Thread nD τ).loc main_arg1)) shapeCasts_S2x8192x1_S16384x1 := by
  show StableHlo.after hostOps0 (fun b => m (c, b)) (Proc.devRef .tc main_v1) = _
  after_results
  rfl
theorem opWs_eq : opWs m c = shapeCast S1x2048 (m ((c : Thread nD τ).loc main_arg3)) shapeCasts_S2048_S1x2048 := by
  show StableHlo.after hostOps0 (fun b => m (c, b)) (Proc.devRef .tc main_v2) = _
  after_results
  rfl
theorem opB_eq : opB m c = shapeCast S1x2048 (m ((c : Thread nD τ).loc main_arg4)) shapeCasts_S2048_S1x2048 := by
  show StableHlo.after hostOps0 (fun b => m (c, b)) (Proc.devRef .tc main_v3) = _
  after_results
  rfl
theorem opW_eq : opW m c = m ((c : Thread nD τ).loc main_arg2) := V_main_arg2 m c

end Cert.ReferenceIdeal.RefValue

namespace Cert

open Cert.KernelIdeal (nD τ)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))
  (h3 : m' ((c.tc : Thread ReferenceIdeal.nD ReferenceIdeal.τ).loc ReferenceIdeal.main_arg3) = m ((c.tc : Thread KernelIdeal.nD KernelIdeal.τ).loc KernelIdeal.main_arg3))
  (h4 : m' ((c.tc : Thread ReferenceIdeal.nD ReferenceIdeal.τ).loc ReferenceIdeal.main_arg4) = m ((c.tc : Thread KernelIdeal.nD KernelIdeal.τ).loc KernelIdeal.main_arg4))

include h0 in
theorem opX_agree : (ReferenceIdeal.RefValue.opX m' c : ReferenceIdeal.S16384x3072.Idx → EReal) = KernelIdeal.RefValue.opX m c := by
  rw [ReferenceIdeal.RefValue.opX_eq, KernelIdeal.RefValue.opX_eq, h0]
include h1 in
theorem opXs_agree : (ReferenceIdeal.RefValue.opXs m' c : ReferenceIdeal.S16384x1.Idx → EReal) = KernelIdeal.RefValue.opXs m c := by
  rw [ReferenceIdeal.RefValue.opXs_eq, KernelIdeal.RefValue.opXs_eq, h1]
include h2 in
theorem opW_agree : (ReferenceIdeal.RefValue.opW m' c : ReferenceIdeal.S3072x2048.Idx → EReal) = KernelIdeal.RefValue.opW m c := by
  rw [ReferenceIdeal.RefValue.opW_eq, KernelIdeal.RefValue.opW_eq, h2]
include h3 in
theorem opWs_agree : (ReferenceIdeal.RefValue.opWs m' c : ReferenceIdeal.S1x2048.Idx → EReal) = KernelIdeal.RefValue.opWs m c := by
  rw [ReferenceIdeal.RefValue.opWs_eq, KernelIdeal.RefValue.opWs_eq, h3]
include h4 in
theorem opB_agree : (ReferenceIdeal.RefValue.opB m' c : ReferenceIdeal.S1x2048.Idx → EReal) = KernelIdeal.RefValue.opB m c := by
  rw [ReferenceIdeal.RefValue.opB_eq, KernelIdeal.RefValue.opB_eq, h4]

include h0 h1 h2 h3 h4

/-- Equal arguments: the reference's first result is the kernel's. -/
theorem resultY_agree : ReferenceIdeal.RefValue.resultY m' c = KernelIdeal.RefValue.resultY m c := by
  unfold ReferenceIdeal.RefValue.resultY KernelIdeal.RefValue.resultY
  rw [opX_agree m m' c h0, opXs_agree m m' c h1, opW_agree m m' c h2, opWs_agree m m' c h3, opB_agree m m' c h4]

/-- Equal arguments: the reference's second result is the kernel's. -/
theorem resultYS_agree : ReferenceIdeal.RefValue.resultYS m' c = KernelIdeal.RefValue.resultYS m c := by
  unfold ReferenceIdeal.RefValue.resultYS KernelIdeal.RefValue.resultYS
  rw [opX_agree m m' c h0, opXs_agree m m' c h1, opW_agree m m' c h2, opWs_agree m m' c h3, opB_agree m m' c h4]

end Cert
-- ==== Proof.lean ====
/-
  The five claims: the kernel, its idealization and the reference each finish and keep their arguments, the idealization
  rewrote nothing, and at the ideal instance the kernel's two results are the reference's for every input.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Operands
public import Idealize.ShloMosaic.Adequacy
public import Idealize.ShloMosaic.Init

@[expose] public section

noncomputable section

namespace Cert.Proof

open Idealize.ShloMosaic Idealize.SL.Sem Cert.Kernel

/-- Over the extended reals the kernel's two results are the reference's, for every input. -/
theorem algebraic : letI := Cert.KernelIdeal.Gen.facts; letI := Cert.ReferenceIdeal.Gen.facts;
    Cert.algebraic_KernelIdeal_ReferenceIdeal := by
  intro m g m' g' _ hm
  refine ⟨fun c => Cert.KernelIdeal.RefValue.resultY m c, fun c => Cert.KernelIdeal.RefValue.resultYS m c, ?_, ?_⟩
  · refine (θ_run _ _ _).mono (fun r h c => ?_) (Cert.KernelIdeal.Value.run_blocks (F := Ideal) m g)
    obtain ⟨h5, h6, hargs⟩ := h c
    exact ⟨h5.trans (Cert.KernelIdeal.RefValue.final5 m c), h6.trans (Cert.KernelIdeal.RefValue.final6 m c), hargs⟩
  · refine (θ_run _ _ _).mono (fun r h c => ?_) (Cert.ReferenceIdeal.Value.run_blocks (F := Ideal) m' g')
    obtain ⟨h5, h6, hargs⟩ := h c
    obtain ⟨h0, h1, h2, h3, h4⟩ := hm c
    exact ⟨h5.trans ((Cert.ReferenceIdeal.RefValue.final5 m' c).trans (Cert.resultY_agree m m' c h0 h1 h2 h3 h4)),
      h6.trans ((Cert.ReferenceIdeal.RefValue.final6 m' c).trans (Cert.resultYS_agree m m' c h0 h1 h2 h3 h4)), hargs⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
